-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_experts [hPre_distinct_experts : Cert.Pre_distinct_experts.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_experts [hPre_distinct_experts : Cert.Pre_distinct_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_experts [hKernelIdeal : Cert.KernelIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_experts [hReferenceIdeal : Cert.ReferenceIdeal.Facts] [hPre_distinct_experts : Cert.Pre_distinct_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_experts [hKernelIdeal : Cert.KernelIdeal.Facts] [hReferenceIdeal : Cert.ReferenceIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_experts : Cert.Pre_distinct_experts.Facts),
    quiescent_Kernel (hKernel := hKernel)
    ∧ quiescent_KernelIdeal (hKernelIdeal := hKernelIdeal)
    ∧ quiescent_KernelIdeal_pre_distinct_experts (hKernelIdeal := hKernelIdeal) (hPre_distinct_experts := hPre_distinct_experts)
    ∧ quiescent_ReferenceIdeal (hReferenceIdeal := hReferenceIdeal)
    ∧ quiescent_ReferenceIdeal_pre_distinct_experts (hReferenceIdeal := hReferenceIdeal) (hPre_distinct_experts := hPre_distinct_experts)
    ∧ preserves_Kernel_KernelIdeal
    ∧ algebraic_KernelIdeal_ReferenceIdeal_pre_distinct_experts (hKernelIdeal := hKernelIdeal) (hReferenceIdeal := hReferenceIdeal) (hPre_distinct_experts := hPre_distinct_experts)
-- ==== Pre_distinct_experts.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S_ : Shape := ⟨0, ![]⟩
abbrev S8 : Shape := ⟨1, ![8]⟩
abbrev S24x3072x8x1 : Shape := ⟨4, ![24, 3072, 8, 1]⟩
abbrev S24x3072x1x8 : Shape := ⟨4, ![24, 3072, 1, 8]⟩
abbrev S24x3072x8x8 : Shape := ⟨4, ![24, 3072, 8, 8]⟩
abbrev S8x1 : Shape := ⟨2, ![8, 1]⟩
abbrev S1x8 : Shape := ⟨2, ![1, 8]⟩
abbrev S8x8 : Shape := ⟨2, ![8, 8]⟩
abbrev S1x1x8x8 : Shape := ⟨4, ![1, 1, 8, 8]⟩

class Facts : Prop where
  bcast_S_S24x3072x8 : S_.BroadcastsInDim S24x3072x8 (![] : Fin 0 → Fin S24x3072x8.rank)
  bcast_S24x3072x8_S24x3072x8x1_0_1_2 : S24x3072x8.BroadcastsInDim S24x3072x8x1 (![0, 1, 2] : Fin 3 → Fin S24x3072x8x1.rank)
  bcast_S24x3072x8_S24x3072x1x8_0_1_3 : S24x3072x8.BroadcastsInDim S24x3072x1x8 (![0, 1, 3] : Fin 3 → Fin S24x3072x1x8.rank)
  bcast_S24x3072x8x1_S24x3072x8x8_0_1_2_3 : S24x3072x8x1.BroadcastsInDim S24x3072x8x8 (![0, 1, 2, 3] : Fin 4 → Fin S24x3072x8x8.rank)
  bcast_S24x3072x1x8_S24x3072x8x8_0_1_2_3 : S24x3072x1x8.BroadcastsInDim S24x3072x8x8 (![0, 1, 2, 3] : Fin 4 → Fin S24x3072x8x8.rank)
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S8x8_S1x1x8x8_2_3 : S8x8.BroadcastsInDim S1x1x8x8 (![2, 3] : Fin 2 → Fin S1x1x8x8.rank)
  bcast_S1x1x8x8_S24x3072x8x8_0_1_2_3 : S1x1x8x8.BroadcastsInDim S24x3072x8x8 (![0, 1, 2, 3] : Fin 4 → Fin S24x3072x8x8.rank)

variable [Facts]

def fn {F : FTy → Type} [FloatOps F] (main_arg0 : FVec F S24x3072x2048 .fp8e4m3) (main_arg1 : FVec F S24x3072 .f32) (main_arg2 : FVec F S2048x128 .bf16) (main_arg3 : IVec S24x3072x8 32) (main_arg4 : FVec F S24x3072x8 .bf16) : IVec S24x3072x8 1 × IVec S24x3072x8x8 1 :=
  let main_c : IVec S_ 32 := constantI S_ 32 0#32
  let main_v0 : IVec S24x3072x8 32 := broadcastInDim S24x3072x8 ![] bcast_S_S24x3072x8 main_c
  let main_v1 : IVec S24x3072x8 1 := cmpi .sge main_arg3 main_v0
  let main_c_0 : IVec S_ 32 := constantI S_ 32 128#32
  let main_v2 : IVec S24x3072x8 32 := broadcastInDim S24x3072x8 ![] bcast_S_S24x3072x8 main_c_0
  let main_v3 : IVec S24x3072x8 1 := cmpi .slt main_arg3 main_v2
  let main_v4 : IVec S24x3072x8 1 := andi main_v1 main_v3
  let main_v5 : IVec S8 32 := iotaInDim S8 32 0
  let main_v6 : IVec S24x3072x8x1 32 := broadcastInDim S24x3072x8x1 ![0, 1, 2] bcast_S24x3072x8_S24x3072x8x1_0_1_2 main_arg3
  let main_v7 : IVec S24x3072x1x8 32 := broadcastInDim S24x3072x1x8 ![0, 1, 3] bcast_S24x3072x8_S24x3072x1x8_0_1_3 main_arg3
  let main_v8 : IVec S24x3072x8x8 32 := broadcastInDim S24x3072x8x8 ![0, 1, 2, 3] bcast_S24x3072x8x1_S24x3072x8x8_0_1_2_3 main_v6
  let main_v9 : IVec S24x3072x8x8 32 := broadcastInDim S24x3072x8x8 ![0, 1, 2, 3] bcast_S24x3072x1x8_S24x3072x8x8_0_1_2_3 main_v7
  let main_v10 : IVec S24x3072x8x8 1 := cmpi .ne main_v8 main_v9
  let main_v11 : IVec S8x1 32 := broadcastInDim S8x1 ![0] bcast_S8_S8x1_0 main_v5
  let main_v12 : IVec S1x8 32 := broadcastInDim S1x8 ![1] bcast_S8_S1x8_1 main_v5
  let main_v13 : IVec S8x8 32 := broadcastInDim S8x8 ![0, 1] bcast_S8x1_S8x8_0_1 main_v11
  let main_v14 : IVec S8x8 32 := broadcastInDim S8x8 ![0, 1] bcast_S1x8_S8x8_0_1 main_v12
  let main_v15 : IVec S8x8 1 := cmpi .eq main_v13 main_v14
  let main_v16 : IVec S1x1x8x8 1 := broadcastInDim S1x1x8x8 ![2, 3] bcast_S8x8_S1x1x8x8_2_3 main_v15
  let main_v17 : IVec S24x3072x8x8 1 := broadcastInDim S24x3072x8x8 ![0, 1, 2, 3] bcast_S1x1x8x8_S24x3072x8x8_0_1_2_3 main_v16
  let main_v18 : IVec S24x3072x8x8 1 := ori main_v10 main_v17
  (main_v4, main_v18)
-- ==== Kernel.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S73728x2048 : Shape := ⟨2, ![73728, 2048]⟩
abbrev S24x8x3072 : Shape := ⟨3, ![24, 8, 3072]⟩
abbrev S73728x128 : Shape := ⟨2, ![73728, 128]⟩
abbrev S1024x2048 : Shape := ⟨2, ![1024, 2048]⟩
abbrev S8x1024 : Shape := ⟨2, ![8, 1024]⟩
abbrev S1x8x1024 : Shape := ⟨3, ![1, 8, 1024]⟩
abbrev S1024x128 : Shape := ⟨2, ![1024, 128]⟩
abbrev S128x2048 : Shape := ⟨2, ![128, 2048]⟩
abbrev S8x128 : Shape := ⟨2, ![8, 128]⟩
abbrev S512x2048 : Shape := ⟨2, ![512, 2048]⟩
abbrev S128x512 : Shape := ⟨2, ![128, 512]⟩
abbrev S128 : Shape := ⟨1, ![128]⟩
abbrev S1x128 : Shape := ⟨2, ![1, 128]⟩
abbrev S1x8x128 : Shape := ⟨3, ![1, 8, 128]⟩
abbrev S128x128 : Shape := ⟨2, ![128, 128]⟩
abbrev S512x128 : Shape := ⟨2, ![512, 128]⟩

abbrev nBuf : Space → Nat
  | .hbm => 11
  | .vmem => 16
  | .smem => 0
  | _ => 0

abbrev bufTy : (tb : Table) → Fin (tcTables nBuf tb) → BufTy
  | .hbm, ⟨0, _⟩ => ⟨S24x3072x2048, .fp8e4m3⟩
  | .hbm, ⟨1, _⟩ => ⟨S24x3072, .f32⟩
  | .hbm, ⟨2, _⟩ => ⟨S2048x128, .bf16⟩
  | .hbm, ⟨3, _⟩ => ⟨S24x3072x8, .i32⟩
  | .hbm, ⟨4, _⟩ => ⟨S24x3072x8, .bf16⟩
  | .hbm, ⟨5, _⟩ => ⟨S73728x2048, .fp8e4m3⟩
  | .hbm, ⟨6, _⟩ => ⟨S24x8x3072, .i32⟩
  | .hbm, ⟨7, _⟩ => ⟨S24x8x3072, .bf16⟩
  | .hbm, ⟨8, _⟩ => ⟨S73728x2048, .bf16⟩
  | .hbm, ⟨9, _⟩ => ⟨S2048x128, .f32⟩
  | .hbm, ⟨10, _⟩ => ⟨S73728x128, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S8x1024, .f32⟩
  | .local _ .vmem, ⟨3, _⟩ => ⟨S8x1024, .f32⟩
  | .local _ .vmem, ⟨4, _⟩ => ⟨S2048x128, .bf16⟩
  | .local _ .vmem, ⟨5, _⟩ => ⟨S1x8x1024, .i32⟩
  | .local _ .vmem, ⟨6, _⟩ => ⟨S1x8x1024, .i32⟩
  | .local _ .vmem, ⟨7, _⟩ => ⟨S1x8x1024, .bf16⟩
  | .local _ .vmem, ⟨8, _⟩ => ⟨S1x8x1024, .bf16⟩
  | .local _ .vmem, ⟨9, _⟩ => ⟨S1024x2048, .bf16⟩
  | .local _ .vmem, ⟨10, _⟩ => ⟨S1024x2048, .bf16⟩
  | .local _ .vmem, ⟨11, _⟩ => ⟨S2048x128, .f32⟩
  | .local _ .vmem, ⟨12, _⟩ => ⟨S1024x128, .f32⟩
  | .local _ .vmem, ⟨13, _⟩ => ⟨S1024x128, .f32⟩
  | .local _ .vmem, ⟨14, _⟩ => ⟨S128x2048, .bf16⟩
  | .local _ .vmem, ⟨15, _⟩ => ⟨S128x2048, .f32⟩
  | _, _ => ⟨S24x3072x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![72], ![false]⟩

def k0_cond2 (i : grid0.Coords) : BitVec 1 :=
  let arg0 : BitVec 32 := BitVec.ofNat 32 (i 0).val
  let c71_i32 : BitVec 32 := 71#32
  let v1025 : BitVec 1 := Scalar.cmpi .eq arg0 c71_i32
  let v1026 : BitVec 32 := Scalar.extui v1025
  let c0_i32_200 : BitVec 32 := 0#32
  let v1027 : BitVec 1 := Scalar.cmpi .ne v1026 c0_i32_200
  v1027

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.divsi v16 c8_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c8_i32 c0_i32_6
  let v24 : BitVec 32 := Scalar.extui v23
  let c0_i32_7 : BitVec 32 := 0#32
  let v25 : BitVec 1 := Scalar.cmpi .slt c8_i32 c0_i32_7
  let v26 : BitVec 32 := Scalar.extui v25
  let v27 : BitVec 32 := Scalar.subi v24 v26
  let v28 : BitVec 1 := Scalar.cmpi .ne v22 v27
  let v29 : BitVec 32 := Scalar.remsi v16 c8_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c3_i32_10 : BitVec 32 := 3#32
  let c0_i32_11 : BitVec 32 := 0#32
  let v34 : BitVec 1 := Scalar.cmpi .eq c3_i32_10 c0_i32_11
  let c1_i32_12 : BitVec 32 := 1#32
  let v35 : BitVec 32 := Scalar.select v34 c1_i32_12 c3_i32_10
  let v36 : BitVec 32 := Scalar.remsi arg0 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c0_i32_16 : BitVec 32 := 0#32
  ![v33.toNat, v43.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S24x3072x2048 : Shape := ⟨3, ![24, 3072, 2048]⟩
abbrev S24x3072 : Shape := ⟨2, ![24, 3072]⟩
abbrev S2048x128 : Shape := ⟨2, ![2048, 128]⟩
abbrev S24x3072x8 : Shape := ⟨3, ![24, 3072, 8]⟩
abbrev S24x3072x128 : Shape := ⟨3, ![24, 3072, 128]⟩
abbrev S24x3072x1 : Shape := ⟨3, ![24, 3072, 1]⟩
abbrev S128 : Shape := ⟨1, ![128]⟩
abbrev S24x3072x8x1 : Shape := ⟨4, ![24, 3072, 8, 1]⟩
abbrev S1x1x1x128 : Shape := ⟨4, ![1, 1, 1, 128]⟩
abbrev S24x3072x8x128 : Shape := ⟨4, ![24, 3072, 8, 128]⟩
abbrev S24x3072x1x128 : Shape := ⟨4, ![24, 3072, 1, 128]⟩
abbrev S_ : Shape := ⟨0, ![]⟩
abbrev S73728x2048 : Shape := ⟨2, ![73728, 2048]⟩
abbrev S73728x128 : Shape := ⟨2, ![73728, 128]⟩

abbrev nBuf : Space → Nat
  | .hbm => 95
  | .vmem => 2
  | .smem => 0
  | _ => 0

abbrev bufTy : (tb : Table) → Fin (tcTables nBuf tb) → BufTy
  | .hbm, ⟨0, _⟩ => ⟨S24x3072x2048, .fp8e4m3⟩
  | .hbm, ⟨1, _⟩ => ⟨S24x3072, .f32⟩
  | .hbm, ⟨2, _⟩ => ⟨S2048x128, .bf16⟩
  | .hbm, ⟨3, _⟩ => ⟨S24x3072x8, .i32⟩
  | .hbm, ⟨4, _⟩ => ⟨S24x3072x8, .bf16⟩
  | .hbm, ⟨5, _⟩ => ⟨S24x3072x2048, .bf16⟩
  | .hbm, ⟨6, _⟩ => ⟨S24x3072x128, .f32⟩
  | .hbm, ⟨7, _⟩ => ⟨S24x3072x1, .f32⟩
  | .hbm, ⟨8, _⟩ => ⟨S24x3072x128, .f32⟩
  | .hbm, ⟨9, _⟩ => ⟨S24x3072x128, .f32⟩
  | .hbm, ⟨10, _⟩ => ⟨S128, .i32⟩
  | .hbm, ⟨11, _⟩ => ⟨S24x3072x8x1, .i32⟩
  | .hbm, ⟨12, _⟩ => ⟨S1x1x1x128, .i32⟩
  | .hbm, ⟨13, _⟩ => ⟨S24x3072x8x128, .i32⟩
  | .hbm, ⟨14, _⟩ => ⟨S24x3072x8x128, .i32⟩
  | .hbm, ⟨15, _⟩ => ⟨S24x3072x8x128, .i1⟩
  | .hbm, ⟨16, _⟩ => ⟨S24x3072x1x128, .f32⟩
  | .hbm, ⟨17, _⟩ => ⟨S_, .f32⟩
  | .hbm, ⟨18, _⟩ => ⟨S_, .f32⟩
  | .hbm, ⟨19, _⟩ => ⟨S24x3072x8x128, .f32⟩
  | .hbm, ⟨20, _⟩ => ⟨S24x3072x8x128, .f32⟩
  | .hbm, ⟨21, _⟩ => ⟨S24x3072x8x128, .f32⟩
  | .hbm, ⟨22, _⟩ => ⟨S_, .f32⟩
  | .hbm, ⟨23, _⟩ => ⟨S24x3072x8, .f32⟩
  | .hbm, ⟨24, _⟩ => ⟨S_, .f32⟩
  | .hbm, ⟨25, _⟩ => ⟨S24x3072, .f32⟩
  | .hbm, ⟨26, _⟩ => ⟨S_, .f32⟩
  | .hbm, ⟨27, _⟩ => ⟨S24x3072, .f32⟩
  | .hbm, ⟨28, _⟩ => ⟨S24x3072, .f32⟩
  | .hbm, ⟨29, _⟩ => ⟨S24x3072x1, .f32⟩
  | .hbm, ⟨30, _⟩ => ⟨S24x3072x8, .f32⟩
  | .hbm, ⟨31, _⟩ => ⟨S24x3072x8, .f32⟩
  | .hbm, ⟨32, _⟩ => ⟨S24x3072x8, .f32⟩
  | .hbm, ⟨33, _⟩ => ⟨S_, .f32⟩
  | .hbm, ⟨34, _⟩ => ⟨S24x3072, .f32⟩
  | .hbm, ⟨35, _⟩ => ⟨S24x3072x1, .f32⟩
  | .hbm, ⟨36, _⟩ => ⟨S24x3072x1, .f32⟩
  | .hbm, ⟨37, _⟩ => ⟨S24x3072x8, .f32⟩
  | .hbm, ⟨38, _⟩ => ⟨S24x3072x8, .f32⟩
  | .hbm, ⟨39, _⟩ => ⟨S24x3072x8, .f32⟩
  | .hbm, ⟨40, _⟩ => ⟨S24x3072x8, .f32⟩
  | .hbm, ⟨41, _⟩ => ⟨S24x3072x8, .f32⟩
  | .hbm, ⟨42, _⟩ => ⟨S_, .f32⟩
  | .hbm, ⟨43, _⟩ => ⟨S24x3072, .f32⟩
  | .hbm, ⟨44, _⟩ => ⟨S24x3072x1, .f32⟩
  | .hbm, ⟨45, _⟩ => ⟨S24x3072x8, .f32⟩
  | .hbm, ⟨46, _⟩ => ⟨S24x3072x8, .f32⟩
  | .hbm, ⟨47, _⟩ => ⟨S24x3072x8, .f32⟩
  | .hbm, ⟨48, _⟩ => ⟨S_, .f32⟩
  | .hbm, ⟨49, _⟩ => ⟨S24x3072, .f32⟩
  | .hbm, ⟨50, _⟩ => ⟨S24x3072, .f32⟩
  | .hbm, ⟨51, _⟩ => ⟨S_, .f32⟩
  | .hbm, ⟨52, _⟩ => ⟨S24x3072, .f32⟩
  | .hbm, ⟨53, _⟩ => ⟨S24x3072, .i1⟩
  | .hbm, ⟨54, _⟩ => ⟨S_, .f32⟩
  | .hbm, ⟨55, _⟩ => ⟨S_, .f32⟩
  | .hbm, ⟨56, _⟩ => ⟨S24x3072, .f32⟩
  | .hbm, ⟨57, _⟩ => ⟨S24x3072, .f32⟩
  | .hbm, ⟨58, _⟩ => ⟨S24x3072x1, .f32⟩
  | .hbm, ⟨59, _⟩ => ⟨S24x3072x128, .f32⟩
  | .hbm, ⟨60, _⟩ => ⟨S24x3072x128, .f32⟩
  | .hbm, ⟨61, _⟩ => ⟨S24x3072x128, .f32⟩
  | .hbm, ⟨62, _⟩ => ⟨S_, .f32⟩
  | .hbm, ⟨63, _⟩ => ⟨S24x3072, .f32⟩
  | .hbm, ⟨64, _⟩ => ⟨S24x3072, .f32⟩
  | .hbm, ⟨65, _⟩ => ⟨S24x3072, .f32⟩
  | .hbm, ⟨66, _⟩ => ⟨S24x3072x1, .f32⟩
  | .hbm, ⟨67, _⟩ => ⟨S24x3072x128, .f32⟩
  | .hbm, ⟨68, _⟩ => ⟨S24x3072x128, .f32⟩
  | .hbm, ⟨69, _⟩ => ⟨S24x3072x128, .f32⟩
  | .hbm, ⟨70, _⟩ => ⟨S24x3072x1, .f32⟩
  | .hbm, ⟨71, _⟩ => ⟨S_, .f32⟩
  | .hbm, ⟨72, _⟩ => ⟨S24x3072x1, .f32⟩
  | .hbm, ⟨73, _⟩ => ⟨S24x3072x1, .f32⟩
  | .hbm, ⟨74, _⟩ => ⟨S24x3072x128, .f32⟩
  | .hbm, ⟨75, _⟩ => ⟨S24x3072x128, .f32⟩
  | .hbm, ⟨76, _⟩ => ⟨S24x3072x8x1, .f32⟩
  | .hbm, ⟨77, _⟩ => ⟨S_, .f32⟩
  | .hbm, ⟨78, _⟩ => ⟨S_, .f32⟩
  | .hbm, ⟨79, _⟩ => ⟨S24x3072x8x128, .f32⟩
  | .hbm, ⟨80, _⟩ => ⟨S24x3072x8x128, .f32⟩
  | .hbm, ⟨81, _⟩ => ⟨S24x3072x8x128, .f32⟩
  | .hbm, ⟨82, _⟩ => ⟨S_, .f32⟩
  | .hbm, ⟨83, _⟩ => ⟨S24x3072x128, .f32⟩
  | .hbm, ⟨84, _⟩ => ⟨S24x3072x128, .f32⟩
  | .hbm, ⟨85, _⟩ => ⟨S24x3072x128, .bf16⟩
  | .hbm, ⟨86, _⟩ => ⟨S24x3072x2048, .f32⟩
  | .hbm, ⟨87, _⟩ => ⟨S24x3072x2048, .bf16⟩
  | .hbm, ⟨88, _⟩ => ⟨S24x3072x1, .f32⟩
  | .hbm, ⟨89, _⟩ => ⟨S24x3072x1, .bf16⟩
  | .hbm, ⟨90, _⟩ => ⟨S24x3072x128, .bf16⟩
  | .hbm, ⟨91, _⟩ => ⟨S24x3072x128, .bf16⟩
  | .hbm, ⟨92, _⟩ => ⟨S2048x128, .f32⟩
  | .hbm, ⟨93, _⟩ => ⟨S73728x2048, .bf16⟩
  | .hbm, ⟨94, _⟩ => ⟨S73728x128, .f32⟩
  | .local _ .vmem, ⟨0, _⟩ => ⟨S24x3072x2048, .fp8e4m3⟩
  | .local _ .vmem, ⟨1, _⟩ => ⟨S24x3072x2048, .bf16⟩
  | _, _ => ⟨S24x3072x2048, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v45 : Ref sig .tc := ⟨.hbm, 81, rfl⟩
abbrev main_cst_8 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x3072x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x3072x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Token.lean ====
module
public import Idealize.ShloMosaic.Lib.Pointwise
/-!
# One token of the router's backward pass

The two formulas for the gradient of one token's 128 router logits, on the extended reals: the one the
kernel computes (`kernelGrad`) and the one the reference computes (`referenceGrad`).

A token has its logits `l`, the eight experts it was sent to, given as words `ids`, and the eight incoming
gradients `dg` of the weights of those experts.
-/
@[expose] public section
noncomputable section
open Idealize.ShloMosaic
namespace Cert.Token

/-- Whether choice `k` of a token is expert `e`, as a bit. -/
abbrev isAt (ids : Fin 8 → BitVec 32) (k : Fin 8) (e : Fin 128) : BitVec 1 :=
  IntOp.cmpi .eq (ids k) (BitVec.ofNat 32 ↑e)

/-- Whether expert `e` is one of the eight, as a bit. -/
def hit (ids : Fin 8 → BitVec 32) (e : Fin 128) : BitVec 1 :=
  IntOp.ori (IntOp.ori (IntOp.ori (IntOp.ori (IntOp.ori (IntOp.ori (IntOp.ori (isAt ids 0 e) (isAt ids 1 e))
    (isAt ids 2 e)) (isAt ids 3 e)) (isAt ids 4 e)) (isAt ids 5 e)) (isAt ids 6 e)) (isAt ids 7 e)

/-- The incoming gradient placed at expert `e`; a later choice writes over an earlier one. -/
def placed (ids : Fin 8 → BitVec 32) (dg : Fin 8 → EReal) (e : Fin 128) : EReal :=
  Scalar.select (isAt ids 7 e) (dg 7) (Scalar.select (isAt ids 6 e) (dg 6) (Scalar.select (isAt ids 5 e) (dg 5)
    (Scalar.select (isAt ids 4 e) (dg 4) (Scalar.select (isAt ids 3 e) (dg 3) (Scalar.select (isAt ids 2 e) (dg 2)
      (Scalar.select (isAt ids 1 e) (dg 1) (Scalar.select (isAt ids 0 e) (dg 0) 0)))))))

/-- The largest of a family, starting from minus infinity. -/
def top {n : ℕ} (l : Fin n → EReal) : EReal :=
  Finset.fold max (Ideal.ofBits .f32 0xFF800000#32) l Finset.univ

/-- The exponentials of a family after its largest member is taken off. -/
def shifted {n : ℕ} (l : Fin n → EReal) (e : Fin n) : EReal := Ideal.exp (l e - top l)

/-- A token's logits with every expert that was not chosen at minus infinity. -/
def masked (l : Fin 128 → EReal) (ids : Fin 8 → BitVec 32) (e : Fin 128) : EReal :=
  Scalar.select (hit ids e) (l e) (Ideal.ofBits .f32 0xFF800000#32)

/-- The coefficient of the squared log-sum-exp penalty. -/
abbrev coef : EReal := Ideal.ofBits .f32 0x3CA3D70A#32

/-- The gradient of one logit as the kernel computes it: softmax of all the logits, and softmax of the chosen ones
with the others at minus infinity, each as exponentials and one reciprocal. -/
def kernelGrad (l : Fin 128 → EReal) (ids : Fin 8 → BitVec 32) (dg : Fin 8 → EReal) (e : Fin 128) : EReal :=
  shifted l e * Ideal.div (coef * (top l + Ideal.log (∑ x, shifted l x))) (∑ x, shifted l x)
  + shifted (masked l ids) e * Ideal.div 1 (∑ x, shifted (masked l ids) x)
    * (placed ids dg e - (∑ x, shifted (masked l ids) x * placed ids dg x)
        * Ideal.div 1 (∑ x, shifted (masked l ids) x))

/-! ## The reference's formula -/

/-- The logits of the chosen experts. -/
def chosen (l : Fin 128 → EReal) (ids : Fin 8 → BitVec 32) (k : Fin 8) : EReal :=
  ∑ e, Scalar.select (isAt ids k e) (l e) 0

/-- The chosen logits less their largest. -/
def lowered (q : Fin 8 → EReal) (k : Fin 8) : EReal := q k - max (Ideal.ofBits .f32 0xFF800000#32) (top q)

/-- The softmax of the chosen logits, as the exponential of its logarithm. -/
def gate (q : Fin 8 → EReal) (k : Fin 8) : EReal := Ideal.exp (lowered q k - Ideal.log (∑ x, Ideal.exp (lowered q x)))

/-- The gradient of the chosen logits from the gradients of their softmax. -/
def gateGrad (g dg : Fin 8 → EReal) (k : Fin 8) : EReal := g k * (dg k - ∑ x, g x * dg x)

/-- The largest logit, or zero when it is infinite. -/
def center (l : Fin 128 → EReal) : EReal :=
  Scalar.select (Ideal.cmp .olt (max (top l) (-top l)) (Ideal.ofBits .f32 0x7F800000#32)) (top l) 0

/-- The logarithm of the sum of the exponentials of the logits. -/
def logSum (l : Fin 128 → EReal) : EReal := Ideal.log (∑ x, Ideal.exp (l x - center l)) + center l

/-- A number per choice, put at its expert. -/
def scattered (ids : Fin 8 → BitVec 32) (d : Fin 8 → EReal) (e : Fin 128) : EReal :=
  ∑ k, Scalar.select (isAt ids k e) (d k) 0

/-- The gradient of one logit as the reference computes it: the softmax of the eight chosen logits, its gradient put back at
the experts, and the penalty's gradient through the log-sum-exp of all the logits. -/
def referenceGrad (l : Fin 128 → EReal) (ids : Fin 8 → BitVec 32) (dg : Fin 8 → EReal) (e : Fin 128) : EReal :=
  coef * logSum l * Ideal.exp (l e - logSum l) + scattered ids (gateGrad (gate (chosen l ids)) dg) e

/-! ## All tokens -/

section All
variable (X : Fin 24 → Fin 3072 → Fin 2048 → EReal) (S : Fin 24 → Fin 3072 → EReal) (W : Fin 2048 → Fin 128 → EReal)
  (I : Fin 24 → Fin 3072 → Fin 8 → BitVec 32) (G : Fin 24 → Fin 3072 → Fin 8 → EReal)

/-- The sequence a token of the flattened order belongs to. -/
def seqOf (f : Fin 73728) : Fin 24 := ⟨↑f / 3072, by omega⟩
/-- The place of a token of the flattened order in its sequence. -/
def posOf (f : Fin 73728) : Fin 3072 := ⟨↑f % 3072, by omega⟩

/-- The logits of token `s` of sequence `b`: weights times codes, times the token's scale. -/
def logit (b : Fin 24) (s : Fin 3072) (e : Fin 128) : EReal := (∑ k : Fin 2048, W k e * X b s k) * S b s

/-- The kernel's gradient of the logits. -/
def logitGrad (b : Fin 24) (s : Fin 3072) (e : Fin 128) : EReal := kernelGrad (logit X S W b s) (I b s) (G b s) e

/-- The kernel's gradient of the inputs. -/
def inputGrad (b : Fin 24) (s : Fin 3072) (d : Fin 2048) : EReal := ∑ e : Fin 128, logitGrad X S W I G b s e * W d e

/-- The kernel's gradient of the weights: a sum over all the tokens. -/
def weightGrad (d : Fin 2048) (e : Fin 128) : EReal :=
  ∑ f : Fin 73728, logitGrad X S W I G (seqOf f) (posOf f) e * S (seqOf f) (posOf f) * X (seqOf f) (posOf f) d
end All

end Cert.Token
end
-- ==== Proof.Chunk.lean ====
module
public import proofs.«01_k».proof.Proof.Gen.KernelIdeal
public import proofs.«01_k».proof.Proof.Gen.KernelIdeal.Skeleton
public import proofs.«01_k».proof.Proof.Token
public import Idealize.ShloMosaic.Lib.Pointwise
/-!
# What the kernel computes for 128 tokens

The kernel works on 128 tokens at a time, laid out as one column per token. Each column of the result is
`Token.kernelGrad` of that column of the logits, of the expert ids and of the incoming gradients.
-/
@[expose] public section
set_option maxRecDepth 16384
noncomputable section
open Idealize.ShloMosaic Idealize.ShloMosaic.TcCoe Idealize.SL.Sem
namespace Cert.KernelIdeal.Value
open Cert.KernelIdeal Cert.KernelIdeal.Gen

/-- The row numbers of a 128 by 128 tile. -/
abbrev rowsOf : IVec S128x128 32 := iota Kind.tc S128x128 32 [0] iota_S128x128_d0_w32

/-- The gradient of the logits of 128 tokens, from their logits, expert ids and incoming gradients. -/
def chunk (l : FVec Ideal S128x128 .f32) (ids : Vec Ideal S1x8x128 .i32) (dg : Vec Ideal S1x8x128 .bf16) : FVec Ideal S128x128 .f32 :=
  k0_pay30 (k0_pay23 (k0_pay9 ids) (k0_pay10 dg) rowsOf (k0_pay16 ids dg) (k0_pay18 ids) (k0_pay19 dg)) (k0_pay25 l)
    (k0_pay26 (k0_pay9 ids) l rowsOf (k0_pay17 ids) (k0_pay18 ids))
    (k0_pay27 (k0_pay9 ids) l rowsOf (k0_pay17 ids) (k0_pay18 ids))
    (k0_pay28 (k0_pay9 ids) (k0_pay10 dg) l rowsOf (k0_pay16 ids dg) (k0_pay17 ids) (k0_pay18 ids) (k0_pay19 dg))
    (k0_pay29 l) (Scalar.ofBits .f32 0x3F800000#32)

/-- A column of the chunk's result is the token gradient of that column. -/
theorem chunk_at (l : FVec Ideal S128x128 .f32) (ids : Vec Ideal S1x8x128 .i32) (dg : Vec Ideal S1x8x128 .bf16) (e τ : Fin 128) :
    chunk l ids dg (ix2 e τ)
      = Token.kernelGrad (fun x => l (ix2 x τ)) (fun k => ids (ix3 0 k τ)) (fun k => dg (ix3 0 k τ)) e := by
  pointwise [chunk, k0_pay30, k0_pay23, k0_pay9, k0_pay10, rowsOf, k0_pay16, k0_pay17, k0_pay18, k0_pay19, k0_pay12, k0_pay13, k0_pay14, k0_pay15, k0_pay20, k0_pay21, k0_pay22, k0_pay24, k0_pay25, k0_pay26, k0_pay27, k0_pay28, k0_pay29]
  rfl
end Cert.KernelIdeal.Value
end
-- ==== Proof.Step.lean ====
module
public import proofs.«01_k».proof.Proof.Chunk
/-!
# What one grid step computes

A grid step has 1024 tokens: their codes `X`, the scales `S` of eight groups of tokens (only the row `r` is used), the
expert ids `I` and the incoming gradients `G`, and the transposed weights `W`. The kernel works through the tokens in eight
chunks of 128. Here each chunk is read off the step: the gradient at a token and an expert is `stepGrad`.
-/
@[expose] public section
set_option maxRecDepth 16384
noncomputable section
open Idealize.ShloMosaic Idealize.ShloMosaic.TcCoe Idealize.SL.Sem
namespace Cert.KernelIdeal.Value
open Cert.KernelIdeal Cert.KernelIdeal.Gen

/-- The scale of a token of a step: the row of scales whose number is the word `r`. -/
def stepScale (r : BitVec 32) (S : Vec Ideal S8x1024 .f32) (τ : Fin 1024) : EReal :=
  ∑ a : Fin 8, Scalar.select (IntOp.cmpi .eq (BitVec.ofNat 32 ↑a) r) (S (ix2 a τ)) 0

/-- A logit of a step: the product of weights and codes, times the token's scale. -/
def stepLogit (r : BitVec 32) (X : Vec Ideal S1024x2048 .fp8e4m3) (W : Vec Ideal S128x2048 .bf16) (S : Vec Ideal S8x1024 .f32)
    (τ : Fin 1024) (e : Fin 128) : EReal :=
  (∑ k : Fin 2048, (W (ix2 e k) : EReal) * X (ix2 τ k)) * stepScale r S τ

/-- The gradient of a logit of a step. -/
def stepGrad (r : BitVec 32) (X : Vec Ideal S1024x2048 .fp8e4m3) (W : Vec Ideal S128x2048 .bf16) (S : Vec Ideal S8x1024 .f32)
    (I : Vec Ideal S1x8x1024 .i32) (G : Vec Ideal S1x8x1024 .bf16) (τ : Fin 1024) (e : Fin 128) : EReal :=
  Token.kernelGrad (stepLogit r X W S τ) (fun k => I (ix3 0 k τ)) (fun k => G (ix3 0 k τ)) e

/-- The mask `b` picks the row of scales whose number is `r`. -/
def Picks (b : IVec S8x128 1) (r : BitVec 32) : Prop :=
  ∀ (a : Fin 8) (τ : Fin 128), b (ix2 a τ) = IntOp.cmpi .eq (BitVec.ofNat 32 ↑a) r

/-- The logits of the first chunk of 128 tokens out of 512. -/
def logits0 (b : IVec S8x128 1) (raw : FVec Ideal S128x512 .f32) (s : Vec Ideal S8x128 .f32) : FVec Ideal S128x128 .f32 := k0_pay11 b raw s

/-- The logits of the first chunk at an expert and a token. -/
theorem logits0_at (b : IVec S8x128 1) (r : BitVec 32) (hb : Picks b r) (raw : FVec Ideal S128x512 .f32) (s : Vec Ideal S8x128 .f32) (e τ : Fin 128) :
    logits0 b raw s (ix2 e τ) = (raw (ix2 e ⟨0 + ↑τ, by omega⟩) : EReal) * ∑ a : Fin 8, Scalar.select (IntOp.cmpi .eq (BitVec.ofNat 32 ↑a) r) (s (ix2 a τ)) 0 := by
  unfold logits0 Picks at *
  pointwise! [k0_pay11, k0_pay8, hb]

/-- The logits of the second chunk of 128 tokens out of 512. -/
def logits1 (b : IVec S8x128 1) (raw : FVec Ideal S128x512 .f32) (s : Vec Ideal S8x128 .f32) : FVec Ideal S128x128 .f32 := k0_pay37 b raw s

/-- The logits of the second chunk at an expert and a token. -/
theorem logits1_at (b : IVec S8x128 1) (r : BitVec 32) (hb : Picks b r) (raw : FVec Ideal S128x512 .f32) (s : Vec Ideal S8x128 .f32) (e τ : Fin 128) :
    logits1 b raw s (ix2 e τ) = (raw (ix2 e ⟨128 + ↑τ, by omega⟩) : EReal) * ∑ a : Fin 8, Scalar.select (IntOp.cmpi .eq (BitVec.ofNat 32 ↑a) r) (s (ix2 a τ)) 0 := by
  unfold logits1 Picks at *
  pointwise! [k0_pay37, k0_pay34, k0_pay8, hb]

/-- The logits of the third chunk of 128 tokens out of 512. -/
def logits2 (b : IVec S8x128 1) (raw : FVec Ideal S128x512 .f32) (s : Vec Ideal S8x128 .f32) : FVec Ideal S128x128 .f32 := k0_pay60 raw (k0_pay57 b s)

/-- The logits of the third chunk at an expert and a token. -/
theorem logits2_at (b : IVec S8x128 1) (r : BitVec 32) (hb : Picks b r) (raw : FVec Ideal S128x512 .f32) (s : Vec Ideal S8x128 .f32) (e τ : Fin 128) :
    logits2 b raw s (ix2 e τ) = (raw (ix2 e ⟨256 + ↑τ, by omega⟩) : EReal) * ∑ a : Fin 8, Scalar.select (IntOp.cmpi .eq (BitVec.ofNat 32 ↑a) r) (s (ix2 a τ)) 0 := by
  unfold logits2 Picks at *
  pointwise! [k0_pay60, k0_pay57, k0_pay8, hb]

/-- The logits of the fourth chunk of 128 tokens out of 512. -/
def logits3 (b : IVec S8x128 1) (raw : FVec Ideal S128x512 .f32) (s : Vec Ideal S8x128 .f32) : FVec Ideal S128x128 .f32 := k0_pay78 b raw s

/-- The logits of the fourth chunk at an expert and a token. -/
theorem logits3_at (b : IVec S8x128 1) (r : BitVec 32) (hb : Picks b r) (raw : FVec Ideal S128x512 .f32) (s : Vec Ideal S8x128 .f32) (e τ : Fin 128) :
    logits3 b raw s (ix2 e τ) = (raw (ix2 e ⟨384 + ↑τ, by omega⟩) : EReal) * ∑ a : Fin 8, Scalar.select (IntOp.cmpi .eq (BitVec.ofNat 32 ↑a) r) (s (ix2 a τ)) 0 := by
  unfold logits3 Picks at *
  pointwise! [k0_pay78, k0_pay75, k0_pay8, hb]

/-- The products of weights and codes of 512 tokens. -/
theorem raw_at (x : Vec Ideal S512x2048 .fp8e4m3) (w : Vec Ideal S128x2048 .bf16) (e : Fin 128) (τ : Fin 512) :
    k0_pay7 x w (ix2 e τ) = (∑ k : Fin 2048, (w (ix2 e k) : EReal) * x (ix2 τ k) : EReal) := by
  pointwise! [k0_pay7, k0_pay6]

/-- The codes of one half of a step's tokens. -/
abbrev half0 (X : Vec Ideal S1024x2048 .fp8e4m3) : Vec Ideal S512x2048 .fp8e4m3 :=
  View.ld X (Rect.unit ![0, 0] ![512, 2048] inb_S1024x2048_S512x2048_0_0)
/-- The codes of the other half of a step's tokens. -/
abbrev half1 (X : Vec Ideal S1024x2048 .fp8e4m3) : Vec Ideal S512x2048 .fp8e4m3 :=
  View.ld X (Rect.unit ![512, 0] ![512, 2048] inb_S1024x2048_S512x2048_512_0)

/-- The scale row of chunk 0 of a step. -/
abbrev srow0 (S : Vec Ideal S8x1024 .f32) : Vec Ideal S8x128 .f32 :=
  View.ld S (Rect.unit ![0, 0] ![8, 128] inb_S8x1024_S8x128_0_0)
/-- The gradient tile of chunk 0 of a step, one column per token. -/
def grad0 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits0 b (k0_pay7 (half0 X) W) (srow0 S))
    (View.ld I (Rect.unit ![0, 0, 0] ![1, 8, 128] inb_S1x8x1024_S1x8x128_0_0_0))
    (View.ld G (Rect.unit ![0, 0, 0] ![1, 8, 128] inb_S1x8x1024_S1x8x128_0_0_0))

/-- Chunk 0 of a step is `stepGrad` at its tokens. -/
theorem grad0_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad0 b X W S I G (ix2 e τ) = stepGrad r X W S I G ⟨0 + ↑τ, by omega⟩ e := by
  unfold grad0 stepGrad
  rw [chunk_at]
  congr 1
  · funext x
    rw [logits0_at b r hb, raw_at]
    unfold stepLogit stepScale
    pointwise [half0, srow0]
    try rfl
  · funext k; pointwise!
  · funext k; pointwise!

/-- The scale row of chunk 1 of a step. -/
abbrev srow1 (S : Vec Ideal S8x1024 .f32) : Vec Ideal S8x128 .f32 :=
  View.ld S (Rect.unit ![0, 128] ![8, 128] inb_S8x1024_S8x128_0_128)
/-- The gradient tile of chunk 1 of a step, one column per token. -/
def grad1 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits1 b (k0_pay7 (half0 X) W) (srow1 S))
    (View.ld I (Rect.unit ![0, 0, 128] ![1, 8, 128] inb_S1x8x1024_S1x8x128_0_0_128))
    (View.ld G (Rect.unit ![0, 0, 128] ![1, 8, 128] inb_S1x8x1024_S1x8x128_0_0_128))

/-- Chunk 1 of a step is `stepGrad` at its tokens. -/
theorem grad1_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad1 b X W S I G (ix2 e τ) = stepGrad r X W S I G ⟨128 + ↑τ, by omega⟩ e := by
  unfold grad1 stepGrad
  rw [chunk_at]
  congr 1
  · funext x
    rw [logits1_at b r hb, raw_at]
    unfold stepLogit stepScale
    pointwise [half0, srow1]
    try rfl
  · funext k; pointwise!
  · funext k; pointwise!

/-- The scale row of chunk 2 of a step. -/
abbrev srow2 (S : Vec Ideal S8x1024 .f32) : Vec Ideal S8x128 .f32 :=
  View.ld S (Rect.unit ![0, 256] ![8, 128] inb_S8x1024_S8x128_0_256)
/-- The gradient tile of chunk 2 of a step, one column per token. -/
def grad2 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits2 b (k0_pay7 (half0 X) W) (srow2 S))
    (View.ld I (Rect.unit ![0, 0, 256] ![1, 8, 128] inb_S1x8x1024_S1x8x128_0_0_256))
    (View.ld G (Rect.unit ![0, 0, 256] ![1, 8, 128] inb_S1x8x1024_S1x8x128_0_0_256))

/-- Chunk 2 of a step is `stepGrad` at its tokens. -/
theorem grad2_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad2 b X W S I G (ix2 e τ) = stepGrad r X W S I G ⟨256 + ↑τ, by omega⟩ e := by
  unfold grad2 stepGrad
  rw [chunk_at]
  congr 1
  · funext x
    rw [logits2_at b r hb, raw_at]
    unfold stepLogit stepScale
    pointwise [half0, srow2]
    try rfl
  · funext k; pointwise!
  · funext k; pointwise!

/-- The scale row of chunk 3 of a step. -/
abbrev srow3 (S : Vec Ideal S8x1024 .f32) : Vec Ideal S8x128 .f32 :=
  View.ld S (Rect.unit ![0, 384] ![8, 128] inb_S8x1024_S8x128_0_384)
/-- The gradient tile of chunk 3 of a step, one column per token. -/
def grad3 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits3 b (k0_pay7 (half0 X) W) (srow3 S))
    (View.ld I (Rect.unit ![0, 0, 384] ![1, 8, 128] inb_S1x8x1024_S1x8x128_0_0_384))
    (View.ld G (Rect.unit ![0, 0, 384] ![1, 8, 128] inb_S1x8x1024_S1x8x128_0_0_384))

/-- Chunk 3 of a step is `stepGrad` at its tokens. -/
theorem grad3_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad3 b X W S I G (ix2 e τ) = stepGrad r X W S I G ⟨384 + ↑τ, by omega⟩ e := by
  unfold grad3 stepGrad
  rw [chunk_at]
  congr 1
  · funext x
    rw [logits3_at b r hb, raw_at]
    unfold stepLogit stepScale
    pointwise [half0, srow3]
    try rfl
  · funext k; pointwise!
  · funext k; pointwise!

/-- The scale row of chunk 4 of a step. -/
abbrev srow4 (S : Vec Ideal S8x1024 .f32) : Vec Ideal S8x128 .f32 :=
  View.ld S (Rect.unit ![0, 512] ![8, 128] inb_S8x1024_S8x128_0_512)
/-- The gradient tile of chunk 4 of a step, one column per token. -/
def grad4 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits0 b (k0_pay7 (half1 X) W) (srow4 S))
    (View.ld I (Rect.unit ![0, 0, 512] ![1, 8, 128] inb_S1x8x1024_S1x8x128_0_0_512))
    (View.ld G (Rect.unit ![0, 0, 512] ![1, 8, 128] inb_S1x8x1024_S1x8x128_0_0_512))

/-- Chunk 4 of a step is `stepGrad` at its tokens. -/
theorem grad4_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad4 b X W S I G (ix2 e τ) = stepGrad r X W S I G ⟨512 + ↑τ, by omega⟩ e := by
  unfold grad4 stepGrad
  rw [chunk_at]
  congr 1
  · funext x
    rw [logits0_at b r hb, raw_at]
    unfold stepLogit stepScale
    pointwise [half1, srow4]
    try rfl
  · funext k; pointwise!
  · funext k; pointwise!

/-- The scale row of chunk 5 of a step. -/
abbrev srow5 (S : Vec Ideal S8x1024 .f32) : Vec Ideal S8x128 .f32 :=
  View.ld S (Rect.unit ![0, 640] ![8, 128] inb_S8x1024_S8x128_0_640)
/-- The gradient tile of chunk 5 of a step, one column per token. -/
def grad5 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits1 b (k0_pay7 (half1 X) W) (srow5 S))
    (View.ld I (Rect.unit ![0, 0, 640] ![1, 8, 128] inb_S1x8x1024_S1x8x128_0_0_640))
    (View.ld G (Rect.unit ![0, 0, 640] ![1, 8, 128] inb_S1x8x1024_S1x8x128_0_0_640))

/-- Chunk 5 of a step is `stepGrad` at its tokens. -/
theorem grad5_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad5 b X W S I G (ix2 e τ) = stepGrad r X W S I G ⟨640 + ↑τ, by omega⟩ e := by
  unfold grad5 stepGrad
  rw [chunk_at]
  congr 1
  · funext x
    rw [logits1_at b r hb, raw_at]
    unfold stepLogit stepScale
    pointwise [half1, srow5]
    simp only [← Nat.add_assoc, Nat.reduceAdd]
  · funext k; pointwise!
  · funext k; pointwise!

/-- The scale row of chunk 6 of a step. -/
abbrev srow6 (S : Vec Ideal S8x1024 .f32) : Vec Ideal S8x128 .f32 :=
  View.ld S (Rect.unit ![0, 768] ![8, 128] inb_S8x1024_S8x128_0_768)
/-- The gradient tile of chunk 6 of a step, one column per token. -/
def grad6 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits2 b (k0_pay7 (half1 X) W) (srow6 S))
    (View.ld I (Rect.unit ![0, 0, 768] ![1, 8, 128] inb_S1x8x1024_S1x8x128_0_0_768))
    (View.ld G (Rect.unit ![0, 0, 768] ![1, 8, 128] inb_S1x8x1024_S1x8x128_0_0_768))

/-- Chunk 6 of a step is `stepGrad` at its tokens. -/
theorem grad6_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad6 b X W S I G (ix2 e τ) = stepGrad r X W S I G ⟨768 + ↑τ, by omega⟩ e := by
  unfold grad6 stepGrad
  rw [chunk_at]
  congr 1
  · funext x
    rw [logits2_at b r hb, raw_at]
    unfold stepLogit stepScale
    pointwise [half1, srow6]
    simp only [← Nat.add_assoc, Nat.reduceAdd]
  · funext k; pointwise!
  · funext k; pointwise!

/-- The scale row of chunk 7 of a step. -/
abbrev srow7 (S : Vec Ideal S8x1024 .f32) : Vec Ideal S8x128 .f32 :=
  View.ld S (Rect.unit ![0, 896] ![8, 128] inb_S8x1024_S8x128_0_896)
/-- The gradient tile of chunk 7 of a step, one column per token. -/
def grad7 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  chunk (logits3 b (k0_pay7 (half1 X) W) (srow7 S))
    (View.ld I (Rect.unit ![0, 0, 896] ![1, 8, 128] inb_S1x8x1024_S1x8x128_0_0_896))
    (View.ld G (Rect.unit ![0, 0, 896] ![1, 8, 128] inb_S1x8x1024_S1x8x128_0_0_896))

/-- Chunk 7 of a step is `stepGrad` at its tokens. -/
theorem grad7_at (b : IVec S8x128 1) (r : BitVec 32) (hb : Picks b r) (X : Vec Ideal S1024x2048 .fp8e4m3) (W : Vec Ideal S128x2048 .bf16)
    (S : Vec Ideal S8x1024 .f32) (I : Vec Ideal S1x8x1024 .i32) (G : Vec Ideal S1x8x1024 .bf16) (e τ : Fin 128) :
    grad7 b X W S I G (ix2 e τ) = stepGrad r X W S I G ⟨896 + ↑τ, by omega⟩ e := by
  unfold grad7 stepGrad
  rw [chunk_at]
  congr 1
  · funext x
    rw [logits3_at b r hb, raw_at]
    unfold stepLogit stepScale
    pointwise [half1, srow7]
    simp only [← Nat.add_assoc, Nat.reduceAdd]
  · funext k; pointwise!
  · funext k; pointwise!

end Cert.KernelIdeal.Value
end
-- ==== Proof.Halves.lean ====
module
public import proofs.«01_k».proof.Proof.Step
/-!
# The products one grid step takes with its gradients

For each half of a step's tokens the kernel stacks four gradient tiles, multiplies the stack with the transposed weights (the
gradient of the inputs), and multiplies the scaled gradients with the codes (a summand of the gradient of the weights).
-/
@[expose] public section
set_option maxRecDepth 16384
noncomputable section
open Idealize.ShloMosaic Idealize.ShloMosaic.TcCoe Idealize.SL.Sem
namespace Cert.KernelIdeal.Value
open Cert.KernelIdeal Cert.KernelIdeal.Gen

/-- Four tiles of 128 rows stacked and multiplied with the weights. -/
def stackMul (A B C D : FVec Ideal S128x128 .bf16) (W : Vec Ideal S128x2048 .bf16) : FVec Ideal S512x2048 .bf16 :=
  truncf .bf16 (matmul (φ₂ := .bf16) dot_S512x128_S128x2048_S512x2048_1_0_0_1_n_n none
    (concatenate S512x128 0 [⟨S128x128, A⟩, ⟨S128x128, B⟩, ⟨S128x128, C⟩, ⟨S128x128, D⟩] concatenates_S128x128_S128x128_S128x128_S128x128_S512x128_d0)
    W (constant S512x2048 .f32 0x00000000#32)) bitsLt_bf16_f32

/-- When the four tiles are the rows of one array `F` from row `o` on, the product is that of `F`. -/
theorem stackMul_at (A B C D : FVec Ideal S128x128 .bf16) (W : Vec Ideal S128x2048 .bf16) (F : Fin 1024 → Fin 128 → EReal) (o : ℕ) (ho : o ≤ 512)
    (hA : ∀ τ e : Fin 128, A (ix2 τ e) = F ⟨o + 0 + ↑τ, by omega⟩ e) (hB : ∀ τ e : Fin 128, B (ix2 τ e) = F ⟨o + 128 + ↑τ, by omega⟩ e)
    (hC : ∀ τ e : Fin 128, C (ix2 τ e) = F ⟨o + 256 + ↑τ, by omega⟩ e) (hD : ∀ τ e : Fin 128, D (ix2 τ e) = F ⟨o + 384 + ↑τ, by omega⟩ e)
    (ρ : Fin 512) (d : Fin 2048) : stackMul A B C D W (ix2 ρ d) = (∑ e : Fin 128, F ⟨o + ↑ρ, by omega⟩ e * W (ix2 e d) : EReal) := by
  pointwise [stackMul]
  refine Finset.sum_congr rfl fun e _ => congrArg (· * (W (ix2 e d) : EReal)) ?_
  simp only [hA, hB, hC, hD]
  split_ifs <;> (congr 1 <;> (apply Fin.ext; simp only; omega))

/-- Four tiles of 128 columns side by side, multiplied with the codes and added to what is there. -/
def sideMul (A B C D : FVec Ideal S128x128 .bf16) (x : Vec Ideal S512x2048 .fp8e4m3) (acc : Vec Ideal S128x2048 .f32) : FVec Ideal S128x2048 .f32 :=
  shapeCast S128x2048 (addf acc (matmul (φ₂ := .bf16) dot_S128x512_S512x2048_S128x2048_1_0_0_1_n_n none
    (concatenate S128x512 1 [⟨S128x128, A⟩, ⟨S128x128, B⟩, ⟨S128x128, C⟩, ⟨S128x128, D⟩] concatenates_S128x128_S128x128_S128x128_S128x128_S128x512_d1)
    (k0_pay6 x) (constant S128x2048 .f32 0x00000000#32))) shapeCasts_S128x2048_S128x2048

/-- When the four tiles are the columns of one array `F` from column `o` on, the product is that of `F`. -/
theorem sideMul_at (A B C D : FVec Ideal S128x128 .bf16) (x : Vec Ideal S512x2048 .fp8e4m3) (acc : Vec Ideal S128x2048 .f32)
    (F : Fin 1024 → Fin 128 → EReal) (o : ℕ) (ho : o ≤ 512)
    (hA : ∀ e τ : Fin 128, A (ix2 e τ) = F ⟨o + 0 + ↑τ, by omega⟩ e) (hB : ∀ e τ : Fin 128, B (ix2 e τ) = F ⟨o + 128 + ↑τ, by omega⟩ e)
    (hC : ∀ e τ : Fin 128, C (ix2 e τ) = F ⟨o + 256 + ↑τ, by omega⟩ e) (hD : ∀ e τ : Fin 128, D (ix2 e τ) = F ⟨o + 384 + ↑τ, by omega⟩ e)
    (e : Fin 128) (d : Fin 2048) :
    sideMul A B C D x acc (ix2 e d) = (acc (ix2 e d) : EReal) + (∑ τ : Fin 512, F ⟨o + ↑τ, by omega⟩ e * x (ix2 τ d) : EReal) := by
  pointwise [sideMul, k0_pay6]
  refine congrArg ((acc (ix2 e d) : EReal) + ·) (Finset.sum_congr rfl fun τ _ => congrArg (· * (x (ix2 τ d) : EReal)) ?_)
  simp only [hA, hB, hC, hD]
  split_ifs <;> (congr 1 <;> (apply Fin.ext; simp only; omega))

/-- The gradients of chunk 0 times the scales of its tokens. -/
def scaled0 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad0 b X W S I G) bitsLt_bf16_f32)
    (broadcastTo S128x128 (truncf .bf16 (k0_pay8 b (srow0 S)) bitsLt_bf16_f32) broadcasts_S1x128_S128x128)

/-- Chunk 0 of the scaled gradients at its tokens. -/
theorem scaled0_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled0 b X W S I G (ix2 e τ) = stepGrad r X W S I G ⟨0 + ↑τ, by omega⟩ e * stepScale r S ⟨0 + ↑τ, by omega⟩ := by
  unfold stepScale
  rw [← grad0_at b r hb X W S I G e τ]
  unfold Picks at hb
  pointwise! [scaled0, k0_pay8, hb, srow0]

/-- The gradient tile of chunk 0, one row per token. -/
def tile0 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad0 b X W S I G) transposes_S128x128_p1_0_S128x128

/-- The tile of chunk 0 at its tokens. -/
theorem tile0_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile0 b X W S I G (ix2 τ e) = stepGrad r X W S I G ⟨0 + ↑τ, by omega⟩ e := by
  rw [← grad0_at b r hb X W S I G e τ]
  pointwise! [tile0]

/-- The gradients of chunk 1 times the scales of its tokens. -/
def scaled1 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad1 b X W S I G) bitsLt_bf16_f32)
    (broadcastTo S128x128 (truncf .bf16 (k0_pay8 b (srow1 S)) bitsLt_bf16_f32) broadcasts_S1x128_S128x128)

/-- Chunk 1 of the scaled gradients at its tokens. -/
theorem scaled1_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled1 b X W S I G (ix2 e τ) = stepGrad r X W S I G ⟨128 + ↑τ, by omega⟩ e * stepScale r S ⟨128 + ↑τ, by omega⟩ := by
  unfold stepScale
  rw [← grad1_at b r hb X W S I G e τ]
  unfold Picks at hb
  pointwise! [scaled1, k0_pay8, hb, srow1]

/-- The gradient tile of chunk 1, one row per token. -/
def tile1 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad1 b X W S I G) transposes_S128x128_p1_0_S128x128

/-- The tile of chunk 1 at its tokens. -/
theorem tile1_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile1 b X W S I G (ix2 τ e) = stepGrad r X W S I G ⟨128 + ↑τ, by omega⟩ e := by
  rw [← grad1_at b r hb X W S I G e τ]
  pointwise! [tile1]

/-- The gradients of chunk 2 times the scales of its tokens. -/
def scaled2 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad2 b X W S I G) bitsLt_bf16_f32)
    (broadcastTo S128x128 (truncf .bf16 (k0_pay8 b (srow2 S)) bitsLt_bf16_f32) broadcasts_S1x128_S128x128)

/-- Chunk 2 of the scaled gradients at its tokens. -/
theorem scaled2_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled2 b X W S I G (ix2 e τ) = stepGrad r X W S I G ⟨256 + ↑τ, by omega⟩ e * stepScale r S ⟨256 + ↑τ, by omega⟩ := by
  unfold stepScale
  rw [← grad2_at b r hb X W S I G e τ]
  unfold Picks at hb
  pointwise! [scaled2, k0_pay8, hb, srow2]

/-- The gradient tile of chunk 2, one row per token. -/
def tile2 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad2 b X W S I G) transposes_S128x128_p1_0_S128x128

/-- The tile of chunk 2 at its tokens. -/
theorem tile2_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile2 b X W S I G (ix2 τ e) = stepGrad r X W S I G ⟨256 + ↑τ, by omega⟩ e := by
  rw [← grad2_at b r hb X W S I G e τ]
  pointwise! [tile2]

/-- The gradients of chunk 3 times the scales of its tokens. -/
def scaled3 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad3 b X W S I G) bitsLt_bf16_f32)
    (broadcastTo S128x128 (truncf .bf16 (k0_pay8 b (srow3 S)) bitsLt_bf16_f32) broadcasts_S1x128_S128x128)

/-- Chunk 3 of the scaled gradients at its tokens. -/
theorem scaled3_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled3 b X W S I G (ix2 e τ) = stepGrad r X W S I G ⟨384 + ↑τ, by omega⟩ e * stepScale r S ⟨384 + ↑τ, by omega⟩ := by
  unfold stepScale
  rw [← grad3_at b r hb X W S I G e τ]
  unfold Picks at hb
  pointwise! [scaled3, k0_pay8, hb, srow3]

/-- The gradient tile of chunk 3, one row per token. -/
def tile3 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad3 b X W S I G) transposes_S128x128_p1_0_S128x128

/-- The tile of chunk 3 at its tokens. -/
theorem tile3_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile3 b X W S I G (ix2 τ e) = stepGrad r X W S I G ⟨384 + ↑τ, by omega⟩ e := by
  rw [← grad3_at b r hb X W S I G e τ]
  pointwise! [tile3]

/-- The gradients of chunk 4 times the scales of its tokens. -/
def scaled4 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad4 b X W S I G) bitsLt_bf16_f32)
    (broadcastTo S128x128 (truncf .bf16 (k0_pay8 b (srow4 S)) bitsLt_bf16_f32) broadcasts_S1x128_S128x128)

/-- Chunk 4 of the scaled gradients at its tokens. -/
theorem scaled4_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled4 b X W S I G (ix2 e τ) = stepGrad r X W S I G ⟨512 + ↑τ, by omega⟩ e * stepScale r S ⟨512 + ↑τ, by omega⟩ := by
  unfold stepScale
  rw [← grad4_at b r hb X W S I G e τ]
  unfold Picks at hb
  pointwise! [scaled4, k0_pay8, hb, srow4]

/-- The gradient tile of chunk 4, one row per token. -/
def tile4 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad4 b X W S I G) transposes_S128x128_p1_0_S128x128

/-- The tile of chunk 4 at its tokens. -/
theorem tile4_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile4 b X W S I G (ix2 τ e) = stepGrad r X W S I G ⟨512 + ↑τ, by omega⟩ e := by
  rw [← grad4_at b r hb X W S I G e τ]
  pointwise! [tile4]

/-- The gradients of chunk 5 times the scales of its tokens. -/
def scaled5 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad5 b X W S I G) bitsLt_bf16_f32)
    (broadcastTo S128x128 (truncf .bf16 (k0_pay8 b (srow5 S)) bitsLt_bf16_f32) broadcasts_S1x128_S128x128)

/-- Chunk 5 of the scaled gradients at its tokens. -/
theorem scaled5_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled5 b X W S I G (ix2 e τ) = stepGrad r X W S I G ⟨640 + ↑τ, by omega⟩ e * stepScale r S ⟨640 + ↑τ, by omega⟩ := by
  unfold stepScale
  rw [← grad5_at b r hb X W S I G e τ]
  unfold Picks at hb
  pointwise! [scaled5, k0_pay8, hb, srow5]

/-- The gradient tile of chunk 5, one row per token. -/
def tile5 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad5 b X W S I G) transposes_S128x128_p1_0_S128x128

/-- The tile of chunk 5 at its tokens. -/
theorem tile5_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile5 b X W S I G (ix2 τ e) = stepGrad r X W S I G ⟨640 + ↑τ, by omega⟩ e := by
  rw [← grad5_at b r hb X W S I G e τ]
  pointwise! [tile5]

/-- The gradients of chunk 6 times the scales of its tokens. -/
def scaled6 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad6 b X W S I G) bitsLt_bf16_f32)
    (broadcastTo S128x128 (truncf .bf16 (k0_pay8 b (srow6 S)) bitsLt_bf16_f32) broadcasts_S1x128_S128x128)

/-- Chunk 6 of the scaled gradients at its tokens. -/
theorem scaled6_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled6 b X W S I G (ix2 e τ) = stepGrad r X W S I G ⟨768 + ↑τ, by omega⟩ e * stepScale r S ⟨768 + ↑τ, by omega⟩ := by
  unfold stepScale
  rw [← grad6_at b r hb X W S I G e τ]
  unfold Picks at hb
  pointwise! [scaled6, k0_pay8, hb, srow6]

/-- The gradient tile of chunk 6, one row per token. -/
def tile6 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad6 b X W S I G) transposes_S128x128_p1_0_S128x128

/-- The tile of chunk 6 at its tokens. -/
theorem tile6_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile6 b X W S I G (ix2 τ e) = stepGrad r X W S I G ⟨768 + ↑τ, by omega⟩ e := by
  rw [← grad6_at b r hb X W S I G e τ]
  pointwise! [tile6]

/-- The gradients of chunk 7 times the scales of its tokens. -/
def scaled7 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .bf16 :=
  mulf (truncf .bf16 (grad7 b X W S I G) bitsLt_bf16_f32)
    (broadcastTo S128x128 (truncf .bf16 (k0_pay8 b (srow7 S)) bitsLt_bf16_f32) broadcasts_S1x128_S128x128)

/-- Chunk 7 of the scaled gradients at its tokens. -/
theorem scaled7_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (e τ : Fin 128) :
    scaled7 b X W S I G (ix2 e τ) = stepGrad r X W S I G ⟨896 + ↑τ, by omega⟩ e * stepScale r S ⟨896 + ↑τ, by omega⟩ := by
  unfold stepScale
  rw [← grad7_at b r hb X W S I G e τ]
  unfold Picks at hb
  pointwise! [scaled7, k0_pay8, hb, srow7]

/-- The gradient tile of chunk 7, one row per token. -/
def tile7 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S128x128 .f32 :=
  transpose S128x128 [1, 0] (grad7 b X W S I G) transposes_S128x128_p1_0_S128x128

/-- The tile of chunk 7 at its tokens. -/
theorem tile7_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (τ e : Fin 128) :
    tile7 b X W S I G (ix2 τ e) = stepGrad r X W S I G ⟨896 + ↑τ, by omega⟩ e := by
  rw [← grad7_at b r hb X W S I G e τ]
  pointwise! [tile7]

/-- The input gradients of half 0 of a step. -/
def inputHalf0 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S512x2048 .bf16 :=
  stackMul (truncf .bf16 (tile0 b X W S I G) bitsLt_bf16_f32) (truncf .bf16 (tile1 b X W S I G) bitsLt_bf16_f32) (truncf .bf16 (tile2 b X W S I G) bitsLt_bf16_f32) (truncf .bf16 (tile3 b X W S I G) bitsLt_bf16_f32) W

/-- The input gradients of half 0 at a token and a feature. -/
theorem inputHalf0_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (ρ : Fin 512) (d : Fin 2048) :
    inputHalf0 b X W S I G (ix2 ρ d) = (∑ e : Fin 128, stepGrad r X W S I G ⟨0 + ↑ρ, by omega⟩ e * W (ix2 e d) : EReal) :=
  stackMul_at _ _ _ _ W (stepGrad r X W S I G) 0 (by omega)
    (fun τ e => tile0_at b r hb X W S I G τ e)
    (fun τ e => tile1_at b r hb X W S I G τ e)
    (fun τ e => tile2_at b r hb X W S I G τ e)
    (fun τ e => tile3_at b r hb X W S I G τ e) ρ d

/-- The weight gradient after half 0 of a step. -/
def weightHalf0 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) (acc : Vec Ideal S128x2048 .f32) : FVec Ideal S128x2048 .f32 :=
  sideMul (scaled0 b X W S I G) (scaled1 b X W S I G) (scaled2 b X W S I G) (scaled3 b X W S I G) (half0 X) acc

/-- The weight gradient after half 0 of a step at an expert and a feature. -/
theorem weightHalf0_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (acc : Vec Ideal S128x2048 .f32) (e : Fin 128) (d : Fin 2048) :
    weightHalf0 b X W S I G acc (ix2 e d) = (acc (ix2 e d) : EReal)
      + (∑ τ : Fin 512, stepGrad r X W S I G ⟨0 + ↑τ, by omega⟩ e * stepScale r S ⟨0 + ↑τ, by omega⟩ * X (ix2 ⟨0 + ↑τ, by omega⟩ d) : EReal) := by
  refine (sideMul_at _ _ _ _ (half0 X) acc
    (fun τ e => stepGrad r X W S I G τ e * stepScale r S τ) 0 (by omega)
    (fun e τ => scaled0_at b r hb X W S I G e τ)
    (fun e τ => scaled1_at b r hb X W S I G e τ)
    (fun e τ => scaled2_at b r hb X W S I G e τ)
    (fun e τ => scaled3_at b r hb X W S I G e τ) e d).trans ?_
  pointwise! [half0]

/-- The input gradients of half 1 of a step. -/
def inputHalf1 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) : FVec Ideal S512x2048 .bf16 :=
  stackMul (truncf .bf16 (tile4 b X W S I G) bitsLt_bf16_f32) (truncf .bf16 (tile5 b X W S I G) bitsLt_bf16_f32) (truncf .bf16 (tile6 b X W S I G) bitsLt_bf16_f32) (truncf .bf16 (tile7 b X W S I G) bitsLt_bf16_f32) W

/-- The input gradients of half 1 at a token and a feature. -/
theorem inputHalf1_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (ρ : Fin 512) (d : Fin 2048) :
    inputHalf1 b X W S I G (ix2 ρ d) = (∑ e : Fin 128, stepGrad r X W S I G ⟨512 + ↑ρ, by omega⟩ e * W (ix2 e d) : EReal) :=
  stackMul_at _ _ _ _ W (stepGrad r X W S I G) 512 (by omega)
    (fun τ e => tile4_at b r hb X W S I G τ e)
    (fun τ e => tile5_at b r hb X W S I G τ e)
    (fun τ e => tile6_at b r hb X W S I G τ e)
    (fun τ e => tile7_at b r hb X W S I G τ e) ρ d

/-- The weight gradient after half 1 of a step. -/
def weightHalf1 (b : IVec S8x128 1) (X : Vec Ideal S1024x2048 .fp8e4m3) (W : Vec Ideal S128x2048 .bf16) (S : Vec Ideal S8x1024 .f32)
    (I : Vec Ideal S1x8x1024 .i32) (G : Vec Ideal S1x8x1024 .bf16) (acc : Vec Ideal S128x2048 .f32) : FVec Ideal S128x2048 .f32 :=
  sideMul (scaled4 b X W S I G) (scaled5 b X W S I G) (scaled6 b X W S I G) (scaled7 b X W S I G) (half1 X) acc

/-- The weight gradient after half 1 of a step at an expert and a feature. -/
theorem weightHalf1_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (acc : Vec Ideal S128x2048 .f32) (e : Fin 128) (d : Fin 2048) :
    weightHalf1 b X W S I G acc (ix2 e d) = (acc (ix2 e d) : EReal)
      + (∑ τ : Fin 512, stepGrad r X W S I G ⟨512 + ↑τ, by omega⟩ e * stepScale r S ⟨512 + ↑τ, by omega⟩ * X (ix2 ⟨512 + ↑τ, by omega⟩ d) : EReal) := by
  refine (sideMul_at _ _ _ _ (half1 X) acc
    (fun τ e => stepGrad r X W S I G τ e * stepScale r S τ) 512 (by omega)
    (fun e τ => scaled4_at b r hb X W S I G e τ)
    (fun e τ => scaled5_at b r hb X W S I G e τ)
    (fun e τ => scaled6_at b r hb X W S I G e τ)
    (fun e τ => scaled7_at b r hb X W S I G e τ) e d).trans ?_
  pointwise! [half1]

end Cert.KernelIdeal.Value
end
-- ==== Proof.Outs.lean ====
module
public import proofs.«01_k».proof.Proof.Halves
public import proofs.«01_k».proof.Proof.Gen.KernelIdeal.Frame
public import proofs.«01_k».proof.Proof.Gen.KernelIdeal.Value
public import Idealize.ShloMosaic.Lib.Pipeline.ValueKit
public import Idealize.ShloMosaic.Lib.Pipeline.ReadBack
/-!
# What each grid step leaves in its blocks

The grid has three kinds of step: the first (A), which transposes the weights and clears the accumulator, the last (C), which
also writes the gradient of the weights, and all others (B). For each kind this module states what the step leaves in the
transposed weights, the accumulator, and the blocks of the three results.
-/
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The transposed weights the step before left. -/
abbrev prevW (c : Dev nD) (t : Fin cfg0.N) : Vec Ideal S128x2048 .bf16 :=
  (outsAt0 m c (t.val - 1) (Nat.lt_of_le_of_lt (Nat.sub_le _ _) t.isLt)).2.2.2.1

/-- The accumulated weight gradient the step before left. -/
abbrev prevAcc (c : Dev nD) (t : Fin cfg0.N) : Vec Ideal S128x2048 .f32 :=
  (outsAt0 m c (t.val - 1) (Nat.lt_of_le_of_lt (Nat.sub_le _ _) t.isLt)).2.2.2.2

/-- The gradients of the logits of step `t`, with the transposed weights `W`. -/
abbrev gradAt (c : Dev nD) (t : Fin cfg0.N) (r : BitVec 32) (W : Vec Ideal S128x2048 .bf16) : Fin 1024 → Fin 128 → EReal :=
  stepGrad r (iblk m c 0 t) W (iblk m c 1 t) (iblk m c 3 t) (iblk m c 4 t)

/-- A sum over the tokens of a step is the sum over its two halves. -/
theorem sum_halves (f : Fin 1024 → EReal) :
    (∑ τ : Fin 512, f ⟨0 + ↑τ, by omega⟩) + (∑ τ : Fin 512, f ⟨512 + ↑τ, by omega⟩) = ∑ τ : Fin 1024, f τ := by
  rw [show (∑ τ : Fin 1024, f τ) = ∑ τ : Fin (512 + 512), f τ from rfl, Fin.sum_univ_add]
  congr 1

/-- The accumulator after both halves of a step: what was there, and the sum over the step's tokens. -/
theorem weightStep_at (b : IVec S8x128 1) (r : BitVec 32) (hb : Picks b r) (X : Vec Ideal S1024x2048 .fp8e4m3) (W : Vec Ideal S128x2048 .bf16) (S : Vec Ideal S8x1024 .f32)
    (I : Vec Ideal S1x8x1024 .i32) (G : Vec Ideal S1x8x1024 .bf16) (acc : Vec Ideal S128x2048 .f32) (e : Fin 128) (d : Fin 2048) :
    weightHalf1 b X W S I G (weightHalf0 b X W S I G acc) (ix2 e d)
      = (acc (ix2 e d) : EReal) + (∑ τ : Fin 1024, stepGrad r X W S I G τ e * stepScale r S τ * X (ix2 τ d) : EReal) := by
  rw [weightHalf1_at b r hb, weightHalf0_at b r hb, add_assoc]
  exact congrArg ((acc (ix2 e d) : EReal) + ·)
    (sum_halves fun τ => stepGrad r X W S I G τ e * stepScale r S τ * X (ix2 τ d))

/-- The transposed weights after the first step. -/
theorem keptW_A (c : Dev nD) (t : Fin cfg0.N) (h0 : t.val % 72 = 0) (h1 : ¬t.val % 72 = 71) : (outsAt0 m c t.val t.isLt).2.2.2.1 = (k0_pay3 (iblk m c 2 t)) := by
  funext y
  generalize hv : (k0_pay3 (iblk m c 2 t)) y = v
  rw [outsAt0_A m c t h0 h1]
  frame_out
  exact hv

/-- The gradients of the logits the first step writes. -/
theorem logitsOut_A (c : Dev nD) (t : Fin cfg0.N) (h0 : t.val % 72 = 0) (h1 : ¬t.val % 72 = 71) (r : BitVec 32)
    (hb : Picks (k0_pay5 (grid0.coords t)) r) (τ : Fin 1024) (e : Fin 128) :
    (outsAt0 m c t.val t.isLt).2.2.1 (ix2 τ e) = gradAt m c t r (k0_pay3 (iblk m c 2 t)) τ e := by
  generalize hv : gradAt m c t r (k0_pay3 (iblk m c 2 t)) τ e = v
  rw [outsAt0_A m c t h0 h1]
  frame_out
  canon_tiles x h
  · refine (show _ = tile7 (k0_pay5 (grid0.coords t)) (iblk m c 0 t) (k0_pay3 (iblk m c 2 t)) (iblk m c 1 t) (iblk m c 3 t) (iblk m c 4 t) x from rfl).trans ?_
    idx_vars x
    refine (tile7_at _ r hb _ _ _ _ _ x0 x1).trans (.trans ?_ hv)
    exact congrArg₂ (gradAt m c t r (k0_pay3 (iblk m c 2 t))) (Fin.ext (by simpa using h0.symm)) (Fin.ext h1.symm)
  · refine (show _ = tile6 (k0_pay5 (grid0.coords t)) (iblk m c 0 t) (k0_pay3 (iblk m c 2 t)) (iblk m c 1 t) (iblk m c 3 t) (iblk m c 4 t) x from rfl).trans ?_
    idx_vars x
    refine (tile6_at _ r hb _ _ _ _ _ x0 x1).trans (.trans ?_ hv)
    exact congrArg₂ (gradAt m c t r (k0_pay3 (iblk m c 2 t))) (Fin.ext (by simpa using h0.symm)) (Fin.ext h1.symm)
  · refine (show _ = tile5 (k0_pay5 (grid0.coords t)) (iblk m c 0 t) (k0_pay3 (iblk m c 2 t)) (iblk m c 1 t) (iblk m c 3 t) (iblk m c 4 t) x from rfl).trans ?_
    idx_vars x
    refine (tile5_at _ r hb _ _ _ _ _ x0 x1).trans (.trans ?_ hv)
    exact congrArg₂ (gradAt m c t r (k0_pay3 (iblk m c 2 t))) (Fin.ext (by simpa using h0.symm)) (Fin.ext h1.symm)
  · refine (show _ = tile4 (k0_pay5 (grid0.coords t)) (iblk m c 0 t) (k0_pay3 (iblk m c 2 t)) (iblk m c 1 t) (iblk m c 3 t) (iblk m c 4 t) x from rfl).trans ?_
    idx_vars x
    refine (tile4_at _ r hb _ _ _ _ _ x0 x1).trans (.trans ?_ hv)
    exact congrArg₂ (gradAt m c t r (k0_pay3 (iblk m c 2 t))) (Fin.ext (by simpa using h0.symm)) (Fin.ext h1.symm)
  · refine (show _ = tile3 (k0_pay5 (grid0.coords t)) (iblk m c 0 t) (k0_pay3 (iblk m c 2 t)) (iblk m c 1 t) (iblk m c 3 t) (iblk m c 4 t) x from rfl).trans ?_
    idx_vars x
    refine (tile3_at _ r hb _ _ _ _ _ x0 x1).trans (.trans ?_ hv)
    exact congrArg₂ (gradAt m c t r (k0_pay3 (iblk m c 2 t))) (Fin.ext (by simpa using h0.symm)) (Fin.ext h1.symm)
  · refine (show _ = tile2 (k0_pay5 (grid0.coords t)) (iblk m c 0 t) (k0_pay3 (iblk m c 2 t)) (iblk m c 1 t) (iblk m c 3 t) (iblk m c 4 t) x from rfl).trans ?_
    idx_vars x
    refine (tile2_at _ r hb _ _ _ _ _ x0 x1).trans (.trans ?_ hv)
    exact congrArg₂ (gradAt m c t r (k0_pay3 (iblk m c 2 t))) (Fin.ext (by simpa using h0.symm)) (Fin.ext h1.symm)
  · refine (show _ = tile1 (k0_pay5 (grid0.coords t)) (iblk m c 0 t) (k0_pay3 (iblk m c 2 t)) (iblk m c 1 t) (iblk m c 3 t) (iblk m c 4 t) x from rfl).trans ?_
    idx_vars x
    refine (tile1_at _ r hb _ _ _ _ _ x0 x1).trans (.trans ?_ hv)
    exact congrArg₂ (gradAt m c t r (k0_pay3 (iblk m c 2 t))) (Fin.ext (by simpa using h0.symm)) (Fin.ext h1.symm)
  · refine (show _ = tile0 (k0_pay5 (grid0.coords t)) (iblk m c 0 t) (k0_pay3 (iblk m c 2 t)) (iblk m c 1 t) (iblk m c 3 t) (iblk m c 4 t) x from rfl).trans ?_
    idx_vars x
    refine (tile0_at _ r hb _ _ _ _ _ x0 x1).trans (.trans ?_ hv)
    exact congrArg₂ (gradAt m c t r (k0_pay3 (iblk m c 2 t))) (Fin.ext (by simpa using h0.symm)) (Fin.ext h1.symm)

/-- The gradients of the inputs the first step writes. -/
theorem inputOut_A (c : Dev nD) (t : Fin cfg0.N) (h0 : t.val % 72 = 0) (h1 : ¬t.val % 72 = 71) (r : BitVec 32)
    (hb : Picks (k0_pay5 (grid0.coords t)) r) (τ : Fin 1024) (d : Fin 2048) :
    (outsAt0 m c t.val t.isLt).1 (ix2 τ d) = (∑ e : Fin 128, gradAt m c t r (k0_pay3 (iblk m c 2 t)) τ e * (k0_pay3 (iblk m c 2 t)) (ix2 e d) : EReal) := by
  generalize hv : (∑ e : Fin 128, gradAt m c t r (k0_pay3 (iblk m c 2 t)) τ e * (k0_pay3 (iblk m c 2 t)) (ix2 e d) : EReal) = v
  rw [outsAt0_A m c t h0 h1]
  frame_out
  canon_tiles x h
  · refine (show _ = inputHalf1 (k0_pay5 (grid0.coords t)) (iblk m c 0 t) (k0_pay3 (iblk m c 2 t)) (iblk m c 1 t) (iblk m c 3 t) (iblk m c 4 t) x from rfl).trans ?_
    idx_vars x
    refine (inputHalf1_at _ r hb _ _ _ _ _ x0 x1).trans (.trans ?_ hv)
    exact congrArg₂ (fun τ d => (∑ e : Fin 128, gradAt m c t r (k0_pay3 (iblk m c 2 t)) τ e * (k0_pay3 (iblk m c 2 t)) (ix2 e d) : EReal)) (Fin.ext (by simpa using h0.symm)) (Fin.ext h1.symm)
  · refine (show _ = inputHalf0 (k0_pay5 (grid0.coords t)) (iblk m c 0 t) (k0_pay3 (iblk m c 2 t)) (iblk m c 1 t) (iblk m c 3 t) (iblk m c 4 t) x from rfl).trans ?_
    idx_vars x
    refine (inputHalf0_at _ r hb _ _ _ _ _ x0 x1).trans (.trans ?_ hv)
    exact congrArg₂ (fun τ d => (∑ e : Fin 128, gradAt m c t r (k0_pay3 (iblk m c 2 t)) τ e * (k0_pay3 (iblk m c 2 t)) (ix2 e d) : EReal)) (Fin.ext (by simpa using h0.symm)) (Fin.ext h1.symm)

/-- The accumulator after the first step. -/
theorem acc_A (c : Dev nD) (t : Fin cfg0.N) (h0 : t.val % 72 = 0) (h1 : ¬t.val % 72 = 71) (r : BitVec 32)
    (hb : Picks (k0_pay5 (grid0.coords t)) r) (e : Fin 128) (d : Fin 2048) :
    (outsAt0 m c t.val t.isLt).2.2.2.2 (ix2 e d) = ((k0_pay4 (F := Ideal)) (ix2 e d) : EReal)
      + (∑ τ : Fin 1024, gradAt m c t r (k0_pay3 (iblk m c 2 t)) τ e * stepScale r (iblk m c 1 t) τ * (iblk m c 0 t : Vec Ideal S1024x2048 .fp8e4m3) (ix2 τ d) : EReal) := by
  refine Eq.trans ?_ (weightStep_at _ r hb (iblk m c 0 t) (k0_pay3 (iblk m c 2 t)) (iblk m c 1 t) (iblk m c 3 t) (iblk m c 4 t) (k0_pay4 (F := Ideal)) e d)
  generalize hv : weightHalf1 _ _ _ _ _ _ _ _ = v
  rw [outsAt0_A m c t h0 h1]
  frame_out
  exact hv

/-- The transposed weights after a middle step. -/
theorem keptW_B (c : Dev nD) (t : Fin cfg0.N) (h0 : ¬t.val % 72 = 0) (h1 : ¬t.val % 72 = 71) : (outsAt0 m c t.val t.isLt).2.2.2.1 = (prevW m c t) := by
  funext y
  generalize hv : (prevW m c t) y = v
  rw [outsAt0_B m c t h0 h1]
  frame_out
  exact hv

/-- The gradients of the logits a middle step writes. -/
theorem logitsOut_B (c : Dev nD) (t : Fin cfg0.N) (h0 : ¬t.val % 72 = 0) (h1 : ¬t.val % 72 = 71) (r : BitVec 32)
    (hb : Picks (k0_pay5 (grid0.coords t)) r) (τ : Fin 1024) (e : Fin 128) :
    (outsAt0 m c t.val t.isLt).2.2.1 (ix2 τ e) = gradAt m c t r (prevW m c t) τ e := by
  generalize hv : gradAt m c t r (prevW m c t) τ e = v
  rw [outsAt0_B m c t h0 h1]
  frame_out
  simp only [read_unread_whole]
  canon_tiles x h
  · refine (show _ = tile7 (k0_pay5 (grid0.coords t)) (iblk m c 0 t) (prevW m c t) (iblk m c 1 t) (iblk m c 3 t) (iblk m c 4 t) x from rfl).trans ?_
    idx_vars x
    refine (tile7_at _ r hb _ _ _ _ _ x0 x1).trans (.trans ?_ hv)
    exact congrArg₂ (gradAt m c t r (prevW m c t)) (Fin.ext (by simpa using h0.symm)) (Fin.ext h1.symm)
  · refine (show _ = tile6 (k0_pay5 (grid0.coords t)) (iblk m c 0 t) (prevW m c t) (iblk m c 1 t) (iblk m c 3 t) (iblk m c 4 t) x from rfl).trans ?_
    idx_vars x
    refine (tile6_at _ r hb _ _ _ _ _ x0 x1).trans (.trans ?_ hv)
    exact congrArg₂ (gradAt m c t r (prevW m c t)) (Fin.ext (by simpa using h0.symm)) (Fin.ext h1.symm)
  · refine (show _ = tile5 (k0_pay5 (grid0.coords t)) (iblk m c 0 t) (prevW m c t) (iblk m c 1 t) (iblk m c 3 t) (iblk m c 4 t) x from rfl).trans ?_
    idx_vars x
    refine (tile5_at _ r hb _ _ _ _ _ x0 x1).trans (.trans ?_ hv)
    exact congrArg₂ (gradAt m c t r (prevW m c t)) (Fin.ext (by simpa using h0.symm)) (Fin.ext h1.symm)
  · refine (show _ = tile4 (k0_pay5 (grid0.coords t)) (iblk m c 0 t) (prevW m c t) (iblk m c 1 t) (iblk m c 3 t) (iblk m c 4 t) x from rfl).trans ?_
    idx_vars x
    refine (tile4_at _ r hb _ _ _ _ _ x0 x1).trans (.trans ?_ hv)
    exact congrArg₂ (gradAt m c t r (prevW m c t)) (Fin.ext (by simpa using h0.symm)) (Fin.ext h1.symm)
  · refine (show _ = tile3 (k0_pay5 (grid0.coords t)) (iblk m c 0 t) (prevW m c t) (iblk m c 1 t) (iblk m c 3 t) (iblk m c 4 t) x from rfl).trans ?_
    idx_vars x
    refine (tile3_at _ r hb _ _ _ _ _ x0 x1).trans (.trans ?_ hv)
    exact congrArg₂ (gradAt m c t r (prevW m c t)) (Fin.ext (by simpa using h0.symm)) (Fin.ext h1.symm)
  · refine (show _ = tile2 (k0_pay5 (grid0.coords t)) (iblk m c 0 t) (prevW m c t) (iblk m c 1 t) (iblk m c 3 t) (iblk m c 4 t) x from rfl).trans ?_
    idx_vars x
    refine (tile2_at _ r hb _ _ _ _ _ x0 x1).trans (.trans ?_ hv)
    exact congrArg₂ (gradAt m c t r (prevW m c t)) (Fin.ext (by simpa using h0.symm)) (Fin.ext h1.symm)
  · refine (show _ = tile1 (k0_pay5 (grid0.coords t)) (iblk m c 0 t) (prevW m c t) (iblk m c 1 t) (iblk m c 3 t) (iblk m c 4 t) x from rfl).trans ?_
    idx_vars x
    refine (tile1_at _ r hb _ _ _ _ _ x0 x1).trans (.trans ?_ hv)
    exact congrArg₂ (gradAt m c t r (prevW m c t)) (Fin.ext (by simpa using h0.symm)) (Fin.ext h1.symm)
  · refine (show _ = tile0 (k0_pay5 (grid0.coords t)) (iblk m c 0 t) (prevW m c t) (iblk m c 1 t) (iblk m c 3 t) (iblk m c 4 t) x from rfl).trans ?_
    idx_vars x
    refine (tile0_at _ r hb _ _ _ _ _ x0 x1).trans (.trans ?_ hv)
    exact congrArg₂ (gradAt m c t r (prevW m c t)) (Fin.ext (by simpa using h0.symm)) (Fin.ext h1.symm)

/-- The gradients of the inputs a middle step writes. -/
theorem inputOut_B (c : Dev nD) (t : Fin cfg0.N) (h0 : ¬t.val % 72 = 0) (h1 : ¬t.val % 72 = 71) (r : BitVec 32)
    (hb : Picks (k0_pay5 (grid0.coords t)) r) (τ : Fin 1024) (d : Fin 2048) :
    (outsAt0 m c t.val t.isLt).1 (ix2 τ d) = (∑ e : Fin 128, gradAt m c t r (prevW m c t) τ e * (prevW m c t) (ix2 e d) : EReal) := by
  generalize hv : (∑ e : Fin 128, gradAt m c t r (prevW m c t) τ e * (prevW m c t) (ix2 e d) : EReal) = v
  rw [outsAt0_B m c t h0 h1]
  frame_out
  simp only [read_unread_whole]
  canon_tiles x h
  · refine (show _ = inputHalf1 (k0_pay5 (grid0.coords t)) (iblk m c 0 t) (prevW m c t) (iblk m c 1 t) (iblk m c 3 t) (iblk m c 4 t) x from rfl).trans ?_
    idx_vars x
    refine (inputHalf1_at _ r hb _ _ _ _ _ x0 x1).trans (.trans ?_ hv)
    exact congrArg₂ (fun τ d => (∑ e : Fin 128, gradAt m c t r (prevW m c t) τ e * (prevW m c t) (ix2 e d) : EReal)) (Fin.ext (by simpa using h0.symm)) (Fin.ext h1.symm)
  · refine (show _ = inputHalf0 (k0_pay5 (grid0.coords t)) (iblk m c 0 t) (prevW m c t) (iblk m c 1 t) (iblk m c 3 t) (iblk m c 4 t) x from rfl).trans ?_
    idx_vars x
    refine (inputHalf0_at _ r hb _ _ _ _ _ x0 x1).trans (.trans ?_ hv)
    exact congrArg₂ (fun τ d => (∑ e : Fin 128, gradAt m c t r (prevW m c t) τ e * (prevW m c t) (ix2 e d) : EReal)) (Fin.ext (by simpa using h0.symm)) (Fin.ext h1.symm)

/-- The accumulator after a middle step. -/
theorem acc_B (c : Dev nD) (t : Fin cfg0.N) (h0 : ¬t.val % 72 = 0) (h1 : ¬t.val % 72 = 71) (r : BitVec 32)
    (hb : Picks (k0_pay5 (grid0.coords t)) r) (e : Fin 128) (d : Fin 2048) :
    (outsAt0 m c t.val t.isLt).2.2.2.2 (ix2 e d) = ((prevAcc m c t) (ix2 e d) : EReal)
      + (∑ τ : Fin 1024, gradAt m c t r (prevW m c t) τ e * stepScale r (iblk m c 1 t) τ * (iblk m c 0 t : Vec Ideal S1024x2048 .fp8e4m3) (ix2 τ d) : EReal) := by
  refine Eq.trans ?_ (weightStep_at _ r hb (iblk m c 0 t) (prevW m c t) (iblk m c 1 t) (iblk m c 3 t) (iblk m c 4 t) (prevAcc m c t) e d)
  generalize hv : weightHalf1 _ _ _ _ _ _ _ _ = v
  rw [outsAt0_B m c t h0 h1]
  frame_out
  simp only [read_unread_whole]
  exact hv

/-- The transposed weights after the last step. -/
theorem keptW_C (c : Dev nD) (t : Fin cfg0.N) (h0 : ¬t.val % 72 = 0) (h1 : t.val % 72 = 71) : (outsAt0 m c t.val t.isLt).2.2.2.1 = (prevW m c t) := by
  funext y
  generalize hv : (prevW m c t) y = v
  rw [outsAt0_C m c t h0 h1]
  frame_out
  exact hv

/-- The gradients of the logits the last step writes. -/
theorem logitsOut_C (c : Dev nD) (t : Fin cfg0.N) (h0 : ¬t.val % 72 = 0) (h1 : t.val % 72 = 71) (r : BitVec 32)
    (hb : Picks (k0_pay5 (grid0.coords t)) r) (τ : Fin 1024) (e : Fin 128) :
    (outsAt0 m c t.val t.isLt).2.2.1 (ix2 τ e) = gradAt m c t r (prevW m c t) τ e := by
  generalize hv : gradAt m c t r (prevW m c t) τ e = v
  rw [outsAt0_C m c t h0 h1]
  frame_out
  simp only [read_unread_whole]
  canon_tiles x h
  · refine (show _ = tile7 (k0_pay5 (grid0.coords t)) (iblk m c 0 t) (prevW m c t) (iblk m c 1 t) (iblk m c 3 t) (iblk m c 4 t) x from rfl).trans ?_
    idx_vars x
    refine (tile7_at _ r hb _ _ _ _ _ x0 x1).trans (.trans ?_ hv)
    exact congrArg₂ (gradAt m c t r (prevW m c t)) (Fin.ext (by simpa using h0.symm)) (Fin.ext h1.symm)
  · refine (show _ = tile6 (k0_pay5 (grid0.coords t)) (iblk m c 0 t) (prevW m c t) (iblk m c 1 t) (iblk m c 3 t) (iblk m c 4 t) x from rfl).trans ?_
    idx_vars x
    refine (tile6_at _ r hb _ _ _ _ _ x0 x1).trans (.trans ?_ hv)
    exact congrArg₂ (gradAt m c t r (prevW m c t)) (Fin.ext (by simpa using h0.symm)) (Fin.ext h1.symm)
  · refine (show _ = tile5 (k0_pay5 (grid0.coords t)) (iblk m c 0 t) (prevW m c t) (iblk m c 1 t) (iblk m c 3 t) (iblk m c 4 t) x from rfl).trans ?_
    idx_vars x
    refine (tile5_at _ r hb _ _ _ _ _ x0 x1).trans (.trans ?_ hv)
    exact congrArg₂ (gradAt m c t r (prevW m c t)) (Fin.ext (by simpa using h0.symm)) (Fin.ext h1.symm)
  · refine (show _ = tile4 (k0_pay5 (grid0.coords t)) (iblk m c 0 t) (prevW m c t) (iblk m c 1 t) (iblk m c 3 t) (iblk m c 4 t) x from rfl).trans ?_
    idx_vars x
    refine (tile4_at _ r hb _ _ _ _ _ x0 x1).trans (.trans ?_ hv)
    exact congrArg₂ (gradAt m c t r (prevW m c t)) (Fin.ext (by simpa using h0.symm)) (Fin.ext h1.symm)
  · refine (show _ = tile3 (k0_pay5 (grid0.coords t)) (iblk m c 0 t) (prevW m c t) (iblk m c 1 t) (iblk m c 3 t) (iblk m c 4 t) x from rfl).trans ?_
    idx_vars x
    refine (tile3_at _ r hb _ _ _ _ _ x0 x1).trans (.trans ?_ hv)
    exact congrArg₂ (gradAt m c t r (prevW m c t)) (Fin.ext (by simpa using h0.symm)) (Fin.ext h1.symm)
  · refine (show _ = tile2 (k0_pay5 (grid0.coords t)) (iblk m c 0 t) (prevW m c t) (iblk m c 1 t) (iblk m c 3 t) (iblk m c 4 t) x from rfl).trans ?_
    idx_vars x
    refine (tile2_at _ r hb _ _ _ _ _ x0 x1).trans (.trans ?_ hv)
    exact congrArg₂ (gradAt m c t r (prevW m c t)) (Fin.ext (by simpa using h0.symm)) (Fin.ext h1.symm)
  · refine (show _ = tile1 (k0_pay5 (grid0.coords t)) (iblk m c 0 t) (prevW m c t) (iblk m c 1 t) (iblk m c 3 t) (iblk m c 4 t) x from rfl).trans ?_
    idx_vars x
    refine (tile1_at _ r hb _ _ _ _ _ x0 x1).trans (.trans ?_ hv)
    exact congrArg₂ (gradAt m c t r (prevW m c t)) (Fin.ext (by simpa using h0.symm)) (Fin.ext h1.symm)
  · refine (show _ = tile0 (k0_pay5 (grid0.coords t)) (iblk m c 0 t) (prevW m c t) (iblk m c 1 t) (iblk m c 3 t) (iblk m c 4 t) x from rfl).trans ?_
    idx_vars x
    refine (tile0_at _ r hb _ _ _ _ _ x0 x1).trans (.trans ?_ hv)
    exact congrArg₂ (gradAt m c t r (prevW m c t)) (Fin.ext (by simpa using h0.symm)) (Fin.ext h1.symm)

/-- The gradients of the inputs the last step writes. -/
theorem inputOut_C (c : Dev nD) (t : Fin cfg0.N) (h0 : ¬t.val % 72 = 0) (h1 : t.val % 72 = 71) (r : BitVec 32)
    (hb : Picks (k0_pay5 (grid0.coords t)) r) (τ : Fin 1024) (d : Fin 2048) :
    (outsAt0 m c t.val t.isLt).1 (ix2 τ d) = (∑ e : Fin 128, gradAt m c t r (prevW m c t) τ e * (prevW m c t) (ix2 e d) : EReal) := by
  generalize hv : (∑ e : Fin 128, gradAt m c t r (prevW m c t) τ e * (prevW m c t) (ix2 e d) : EReal) = v
  rw [outsAt0_C m c t h0 h1]
  frame_out
  simp only [read_unread_whole]
  canon_tiles x h
  · refine (show _ = inputHalf1 (k0_pay5 (grid0.coords t)) (iblk m c 0 t) (prevW m c t) (iblk m c 1 t) (iblk m c 3 t) (iblk m c 4 t) x from rfl).trans ?_
    idx_vars x
    refine (inputHalf1_at _ r hb _ _ _ _ _ x0 x1).trans (.trans ?_ hv)
    exact congrArg₂ (fun τ d => (∑ e : Fin 128, gradAt m c t r (prevW m c t) τ e * (prevW m c t) (ix2 e d) : EReal)) (Fin.ext (by simpa using h0.symm)) (Fin.ext h1.symm)
  · refine (show _ = inputHalf0 (k0_pay5 (grid0.coords t)) (iblk m c 0 t) (prevW m c t) (iblk m c 1 t) (iblk m c 3 t) (iblk m c 4 t) x from rfl).trans ?_
    idx_vars x
    refine (inputHalf0_at _ r hb _ _ _ _ _ x0 x1).trans (.trans ?_ hv)
    exact congrArg₂ (fun τ d => (∑ e : Fin 128, gradAt m c t r (prevW m c t) τ e * (prevW m c t) (ix2 e d) : EReal)) (Fin.ext (by simpa using h0.symm)) (Fin.ext h1.symm)

/-- The accumulator after the last step. -/
theorem acc_C (c : Dev nD) (t : Fin cfg0.N) (h0 : ¬t.val % 72 = 0) (h1 : t.val % 72 = 71) (r : BitVec 32)
    (hb : Picks (k0_pay5 (grid0.coords t)) r) (e : Fin 128) (d : Fin 2048) :
    (outsAt0 m c t.val t.isLt).2.2.2.2 (ix2 e d) = ((prevAcc m c t) (ix2 e d) : EReal)
      + (∑ τ : Fin 1024, gradAt m c t r (prevW m c t) τ e * stepScale r (iblk m c 1 t) τ * (iblk m c 0 t : Vec Ideal S1024x2048 .fp8e4m3) (ix2 τ d) : EReal) := by
  refine Eq.trans ?_ (weightStep_at _ r hb (iblk m c 0 t) (prevW m c t) (iblk m c 1 t) (iblk m c 3 t) (iblk m c 4 t) (prevAcc m c t) e d)
  generalize hv : weightHalf1 _ _ _ _ _ _ _ _ = v
  rw [outsAt0_C m c t h0 h1]
  frame_out
  simp only [read_unread_whole]
  exact hv

/-- The gradient of the weights the last step writes: the accumulator, transposed. -/
theorem weightsOut_C (c : Dev nD) (t : Fin cfg0.N) (h0 : ¬t.val % 72 = 0) (h1 : t.val % 72 = 71) (d : Fin 2048) (e : Fin 128) :
    (outsAt0 m c t.val t.isLt).2.1 (ix2 d e) = (outsAt0 m c t.val t.isLt).2.2.2.2 (ix2 e d) := by
  have ha : (outsAt0 m c t.val t.isLt).2.2.2.2 = weightHalf1 (k0_pay5 (grid0.coords t)) (iblk m c 0 t) (prevW m c t) (iblk m c 1 t) (iblk m c 3 t) (iblk m c 4 t) (weightHalf0 (k0_pay5 (grid0.coords t)) (iblk m c 0 t) (prevW m c t) (iblk m c 1 t) (iblk m c 3 t) (iblk m c 4 t) (prevAcc m c t)) := by
    generalize hv : weightHalf1 _ _ _ _ _ _ _ = v
    rw [outsAt0_C m c t h0 h1]
    frame_out
    simp only [read_unread_whole]
    exact hv
  rw [ha]
  generalize hv : weightHalf1 _ _ _ _ _ _ _ _ = v
  rw [outsAt0_C m c t h0 h1]
  frame_out
  simp only [read_unread_whole]
  refine (show _ = k0_pay2 (weightHalf1 (k0_pay5 (grid0.coords t)) (iblk m c 0 t) (prevW m c t) (iblk m c 1 t) (iblk m c 3 t) (iblk m c 4 t) (weightHalf0 (k0_pay5 (grid0.coords t)) (iblk m c 0 t) (prevW m c t) (iblk m c 1 t) (iblk m c 3 t) (iblk m c 4 t) (prevAcc m c t))) (ix2 d e) from rfl).trans (Eq.trans ?_ hv)
  pointwise [k0_pay2]

end Cert.KernelIdeal.Value
end
-- ==== Proof.Arrays.lean ====
module
public import proofs.«01_k».proof.Proof.Outs
/-!
# What the kernel's result arrays hold after the run

The blocks of each step are read off the kernel's arguments, the transposed weights are the same at every step, the accumulator
is a sum over the steps, and so each result array is given by one formula over the arguments.
-/
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The block of each array a step works on. -/
theorem idx : ∀ t : Fin cfg0.N, win0_0.index t = ![t.val, 0] ∧ win0_1.index t = ![t.val / 24, t.val % 3] ∧ win0_2.index t = ![0, 0]
    ∧ win0_3.index t = ![t.val / 3, 0, t.val % 3] ∧ win0_4.index t = ![t.val / 3, 0, t.val % 3]
    ∧ win0_5.index t = ![t.val, 0] ∧ win0_6.index t = ![0, 0] ∧ win0_7.index t = ![t.val, 0] := (by decide +kernel : ∀ t : Fin grid0.N, _)

/-- There are 72 steps. -/
theorem lt72 (t : Fin cfg0.N) : t.val < 72 := N_0 ▸ t.isLt

/-- The sequence whose tokens a step works on. -/
abbrev seqAt (t : Fin cfg0.N) : Fin 24 := ⟨t.val / 3, by have := lt72 t; omega⟩
/-- The place in its sequence of a token of a step. -/
abbrev posAt (t : Fin cfg0.N) (τ : Fin 1024) : Fin 3072 := ⟨t.val % 3 * 1024 + τ, by omega⟩

/-- The codes of a step, read off the codes of all the tokens. -/
theorem codes_at (c : Dev nD) (t : Fin cfg0.N) (τ : Fin 1024) (k : Fin 2048) :
    (iblk m c 0 t : Vec Ideal S1024x2048 .fp8e4m3) (ix2 τ k) = m ((c.tc : Thread nD KernelIdeal.τ).loc main_arg0) (ix3 (seqAt t) (posAt t τ) k) := by
  blk_simp [iblk, V, idx t]
  entry_read
  pointwise
  blk_ext [idx t]
/-- The scales of a step, read off all the scales. -/
theorem scales_at (c : Dev nD) (t : Fin cfg0.N) (a : Fin 8) (τ : Fin 1024) :
    (iblk m c 1 t : Vec Ideal S8x1024 .f32) (ix2 a τ) = m ((c.tc : Thread nD KernelIdeal.τ).loc main_arg1) (ix2 (⟨t.val / 24 * 8 + a, by have := lt72 t; omega⟩ : Fin 24) (posAt t τ)) := by
  blk_point [iblk, V, idx t]
/-- The weights of a step are the weights. -/
theorem weights_at (c : Dev nD) (t : Fin cfg0.N) (k : Fin 2048) (e : Fin 128) :
    (iblk m c 2 t : Vec Ideal S2048x128 .bf16) (ix2 k e) = m ((c.tc : Thread nD KernelIdeal.τ).loc main_arg2) (ix2 k e) := by
  blk_point [iblk, V, idx t]
/-- The expert ids of a step, read off all the ids. -/
theorem ids_at (c : Dev nD) (t : Fin cfg0.N) (k : Fin 8) (τ : Fin 1024) :
    (iblk m c 3 t : Vec Ideal S1x8x1024 .i32) (ix3 0 k τ) = m ((c.tc : Thread nD KernelIdeal.τ).loc main_arg3) (ix3 (seqAt t) (posAt t τ) k) := by
  blk_simp [iblk, V, idx t]
  entry_read
  pointwise
  blk_ext [idx t]
/-- The incoming gradients of a step, read off all of them. -/
theorem dgates_at (c : Dev nD) (t : Fin cfg0.N) (k : Fin 8) (τ : Fin 1024) :
    (iblk m c 4 t : Vec Ideal S1x8x1024 .bf16) (ix3 0 k τ) = m ((c.tc : Thread nD KernelIdeal.τ).loc main_arg4) (ix3 (seqAt t) (posAt t τ) k) := by
  blk_simp [iblk, V, idx t]
  entry_read
  pointwise
  blk_ext [idx t]

/-- The number, as a word, of the row of scales a step uses. -/
abbrev rowWord (t : Fin cfg0.N) : BitVec 32 := BitVec.ofNat 32 (t.val / 3 % 8)

/-- The mask of a step picks the row of scales of its sequence. -/
theorem picks (t : Fin cfg0.N) : Picks (k0_pay5 (grid0.coords t)) (rowWord t) := by
  intro a τ
  refine (show k0_pay5 (grid0.coords t) (ix2 a τ) = k0_pay5 (grid0.coords t) (ix2 a 0) from rfl).trans ?_
  revert t a
  exact (by decide +kernel : ∀ (t : Fin grid0.N) (a : Fin 8),
    k0_pay5 (grid0.coords t) (ix2 a 0) = IntOp.cmpi .eq (BitVec.ofNat 32 ↑a) (BitVec.ofNat 32 (t.val / 3 % 8)))

/-- A sum over eight rows of which the mask keeps one is that row. -/
theorem sum_picked (n : Fin 8) (f : Fin 8 → EReal) :
    ∑ a : Fin 8, Scalar.select (IntOp.cmpi .eq (BitVec.ofNat 32 ↑a) (BitVec.ofNat 32 ↑n)) (f a) 0 = f n := by
  have h : ∀ a : Fin 8, IntOp.cmpi .eq (BitVec.ofNat 32 ↑a) (BitVec.ofNat 32 ↑n) = if a = n then 1#1 else 0#1 := by
    revert n; decide
  simp only [h]
  rw [Finset.sum_eq_single n]
  · simp [Scalar.select]
  · intro a _ ha; simp [Scalar.select, ha]
  · simp

/-- The codes of all the tokens. -/
abbrev argX (c : Dev nD) : Fin 24 → Fin 3072 → Fin 2048 → EReal := fun b s k => m ((c.tc : Thread nD KernelIdeal.τ).loc main_arg0) (ix3 b s k)
/-- The scales of all the tokens. -/
abbrev argS (c : Dev nD) : Fin 24 → Fin 3072 → EReal := fun b s => m ((c.tc : Thread nD KernelIdeal.τ).loc main_arg1) (ix2 b s)
/-- The weights. -/
abbrev argW (c : Dev nD) : Fin 2048 → Fin 128 → EReal := fun k e => m ((c.tc : Thread nD KernelIdeal.τ).loc main_arg2) (ix2 k e)
/-- The expert ids of all the tokens. -/
abbrev argI (c : Dev nD) : Fin 24 → Fin 3072 → Fin 8 → BitVec 32 := fun b s k => m ((c.tc : Thread nD KernelIdeal.τ).loc main_arg3) (ix3 b s k)
/-- The incoming gradients of all the tokens. -/
abbrev argG (c : Dev nD) : Fin 24 → Fin 3072 → Fin 8 → EReal := fun b s k => m ((c.tc : Thread nD KernelIdeal.τ).loc main_arg4) (ix3 b s k)

/-- The scale of a token of a step. -/
theorem stepScale_at (c : Dev nD) (t : Fin cfg0.N) (τ : Fin 1024) :
    stepScale (rowWord t) (iblk m c 1 t) τ = argS m c (seqAt t) (posAt t τ) := by
  unfold stepScale
  simp only [scales_at]
  refine (sum_picked ⟨t.val / 3 % 8, by omega⟩
    (fun a => m ((c.tc : Thread nD KernelIdeal.τ).loc main_arg1) (ix2 (⟨t.val / 24 * 8 + a, by have := lt72 t; omega⟩ : Fin 24) (posAt t τ)))).trans ?_
  exact congrArg (fun b => m ((c.tc : Thread nD KernelIdeal.τ).loc main_arg1) (ix2 b (posAt t τ))) (Fin.ext (by simp only; omega))

/-- The transposed weights. -/
def turned (c : Dev nD) : Vec Ideal S128x2048 .bf16 := k0_pay3 (m ((c.tc : Thread nD KernelIdeal.τ).loc main_arg2))

/-- The transposed weights at an expert and a feature. -/
theorem turned_at (c : Dev nD) (e : Fin 128) (k : Fin 2048) : turned m c (ix2 e k) = argW m c k e := by
  unfold turned
  pointwise [k0_pay3]

/-- The weights a step sees are the weights. -/
theorem weights_eq (c : Dev nD) (t : Fin cfg0.N) : k0_pay3 (F := Ideal) (iblk m c 2 t) = turned m c := by
  unfold turned
  refine congrArg (k0_pay3 (F := Ideal)) (funext fun i => ?_)
  idx_vars i
  exact weights_at m c t i0 i1

/-- Every step has the transposed weights. -/
theorem keptW (c : Dev nD) (n : ℕ) (hn : n < cfg0.N) : (outsAt0 m c n hn).2.2.2.1 = turned m c := by
  induction n with
  | zero => exact (keptW_A m c ⟨0, hn⟩ (Nat.zero_mod 72) (by simp)).trans (weights_eq m c _)
  | succ n ih =>
    have hN : n + 1 < 72 := lt72 ⟨n + 1, hn⟩
    by_cases h1 : (n + 1) % 72 = 71
    · exact (keptW_C m c ⟨n + 1, hn⟩ (by simp only; omega) h1).trans (ih _)
    · exact (keptW_B m c ⟨n + 1, hn⟩ (by simp only; omega) h1).trans (ih _)

/-- The gradient of a logit of a step. -/
theorem gradAt_eq (c : Dev nD) (t : Fin cfg0.N) (τ : Fin 1024) (e : Fin 128) :
    gradAt m c t (rowWord t) (turned m c) τ e
      = Token.logitGrad (argX m c) (argS m c) (argW m c) (argI m c) (argG m c) (seqAt t) (posAt t τ) e := by
  unfold gradAt stepGrad Token.logitGrad
  simp only [ids_at, dgates_at]
  congr 1
  funext x
  unfold stepLogit Token.logit
  rw [stepScale_at]
  simp only [turned_at, codes_at]

/-- The gradients of the logits a step writes. -/
theorem logitsOut (c : Dev nD) (t : Fin cfg0.N) (τ : Fin 1024) (e : Fin 128) :
    (outsAt0 m c t.val t.isLt).2.2.1 (ix2 τ e)
      = Token.logitGrad (argX m c) (argS m c) (argW m c) (argI m c) (argG m c) (seqAt t) (posAt t τ) e := by
  have hN := lt72 t
  refine Eq.trans ?_ (gradAt_eq m c t τ e)
  by_cases h0 : t.val % 72 = 0
  · rw [logitsOut_A m c t h0 (by omega) _ (picks t), weights_eq]
  · by_cases h1 : t.val % 72 = 71
    · rw [logitsOut_C m c t h0 h1 _ (picks t)]; simp only [prevW, keptW]
    · rw [logitsOut_B m c t h0 h1 _ (picks t)]; simp only [prevW, keptW]

/-- The gradients of the inputs a step writes. -/
theorem inputOut (c : Dev nD) (t : Fin cfg0.N) (τ : Fin 1024) (d : Fin 2048) :
    (outsAt0 m c t.val t.isLt).1 (ix2 τ d)
      = Token.inputGrad (argX m c) (argS m c) (argW m c) (argI m c) (argG m c) (seqAt t) (posAt t τ) d := by
  have hN := lt72 t
  unfold Token.inputGrad
  refine Eq.trans ?_ (Finset.sum_congr rfl fun e _ => congrArg₂ (· * ·) (gradAt_eq m c t τ e) (turned_at m c e d))
  by_cases h0 : t.val % 72 = 0
  · rw [inputOut_A m c t h0 (by omega) _ (picks t), weights_eq]
  · by_cases h1 : t.val % 72 = 71
    · rw [inputOut_C m c t h0 h1 _ (picks t)]; simp only [prevW, keptW]
    · rw [inputOut_B m c t h0 h1 _ (picks t)]; simp only [prevW, keptW]

/-- What one step adds to the accumulator. -/
def stepSum (c : Dev nD) (t : Fin cfg0.N) (e : Fin 128) (d : Fin 2048) : EReal :=
  ∑ τ : Fin 1024, Token.logitGrad (argX m c) (argS m c) (argW m c) (argI m c) (argG m c) (seqAt t) (posAt t τ) e
    * argS m c (seqAt t) (posAt t τ) * argX m c (seqAt t) (posAt t τ) d

/-- The accumulator is the sum of the steps so far. -/
theorem accAt (c : Dev nD) (e : Fin 128) (d : Fin 2048) (n : ℕ) (hn : n < cfg0.N) :
    (outsAt0 m c n hn).2.2.2.2 (ix2 e d) = (∑ j : Fin (n + 1), stepSum m c ⟨j, by omega⟩ e d : EReal) := by
  induction n with
  | zero =>
    rw [acc_A m c ⟨0, hn⟩ (Nat.zero_mod 72) (by simp) _ (picks _)]
    simp only [weights_eq, gradAt_eq, stepScale_at, codes_at]
    rw [Fin.sum_univ_one]
    refine (congrArg (· + _) ?_).trans (zero_add _)
    pointwise [k0_pay4]
  | succ n ih =>
    have hN : n + 1 < 72 := lt72 ⟨n + 1, hn⟩
    rw [Fin.sum_univ_castSucc]
    refine Eq.trans ?_ (congrArg (· + _) (ih (by omega)))
    by_cases h1 : (n + 1) % 72 = 71
    · rw [acc_C m c ⟨n + 1, hn⟩ (by simp only; omega) h1 _ (picks _)]
      simp only [prevW, keptW, gradAt_eq, stepScale_at, codes_at]
      rfl
    · rw [acc_B m c ⟨n + 1, hn⟩ (by simp only; omega) h1 _ (picks _)]
      simp only [prevW, keptW, gradAt_eq, stepScale_at, codes_at]
      rfl

/-- The token of the flattened order a step's token is. -/
abbrev tokenAt (t : Fin cfg0.N) (τ : Fin 1024) : Fin 73728 := ⟨t.val * 1024 + τ, by have := lt72 t; omega⟩

/-- Its sequence. -/
theorem seqOf_at (t : Fin cfg0.N) (τ : Fin 1024) : Token.seqOf (tokenAt t τ) = seqAt t :=
  Fin.ext (by show (t.val * 1024 + τ.val) / 3072 = t.val / 3; omega)

/-- Its place in the sequence. -/
theorem posOf_at (t : Fin cfg0.N) (τ : Fin 1024) : Token.posOf (tokenAt t τ) = posAt t τ :=
  Fin.ext (by show (t.val * 1024 + τ.val) % 3072 = t.val % 3 * 1024 + τ.val; omega)

/-- The first result: the gradient of the inputs at every token. -/
theorem inputs_array (c : Dev nD) (f : Fin 73728) (e : Fin 2048) :
    (dats m 0 c).arrAt 5 cfg0.N (ix2 f e)
      = Token.inputGrad (argX m c) (argS m c) (argW m c) (argI m c) (argG m c) (Token.seqOf f) (Token.posOf f) e := by
  refine congrFun (f := (dats m 0 c).arrAt 5 cfg0.N)
    (g := fun i : S73728x2048.Idx => Token.inputGrad (argX m c) (argS m c) (argW m c) (argI m c) (argG m c) (Token.seqOf (i 0)) (Token.posOf (i 0)) (i 1)) ?_ (ix2 f e)
  refine (dats m 0 c).arrAt_eq_of_covers 5 _ (by decide +kernel) fun t hf y => ?_
  blk_simp
  rw [after0_5]
  idx_vars y
  refine (inputOut m c t y0 y1).trans ?_
  have hi : (((cfg0.win 5).blk t).view.emb (ix2 y0 y1) : S73728x2048.Idx) = ix2 (tokenAt t y0) y1 := by
    blk_ext [idx t]
  refine Eq.trans ?_ (congrArg (fun i : S73728x2048.Idx => Token.inputGrad (argX m c) (argS m c) (argW m c) (argI m c) (argG m c)
    (Token.seqOf (i 0)) (Token.posOf (i 0)) (i 1)) hi).symm
  exact congrArg₂ (fun b s => Token.inputGrad (argX m c) (argS m c) (argW m c) (argI m c) (argG m c) b s y1) (seqOf_at t y0).symm (posOf_at t y0).symm

/-- The third result: the gradient of the logits at every token. -/
theorem logits_array (c : Dev nD) (f : Fin 73728) (e : Fin 128) :
    (dats m 0 c).arrAt 7 cfg0.N (ix2 f e)
      = Token.logitGrad (argX m c) (argS m c) (argW m c) (argI m c) (argG m c) (Token.seqOf f) (Token.posOf f) e := by
  refine congrFun (f := (dats m 0 c).arrAt 7 cfg0.N)
    (g := fun i : S73728x128.Idx => Token.logitGrad (argX m c) (argS m c) (argW m c) (argI m c) (argG m c) (Token.seqOf (i 0)) (Token.posOf (i 0)) (i 1)) ?_ (ix2 f e)
  refine (dats m 0 c).arrAt_eq_of_covers 7 _ (by decide +kernel) fun t hf y => ?_
  blk_simp
  rw [after0_7]
  idx_vars y
  refine (logitsOut m c t y0 y1).trans ?_
  have hi : (((cfg0.win 7).blk t).view.emb (ix2 y0 y1) : S73728x128.Idx) = ix2 (tokenAt t y0) y1 := by
    blk_ext [idx t]
  refine Eq.trans ?_ (congrArg (fun i : S73728x128.Idx => Token.logitGrad (argX m c) (argS m c) (argW m c) (argI m c) (argG m c)
    (Token.seqOf (i 0)) (Token.posOf (i 0)) (i 1)) hi).symm
  exact congrArg₂ (fun b s => Token.logitGrad (argX m c) (argS m c) (argW m c) (argI m c) (argG m c) b s y1) (seqOf_at t y0).symm (posOf_at t y0).symm

/-- The sum of all the steps is the sum over all the tokens. -/
theorem sum_steps (c : Dev nD) (d : Fin 2048) (e : Fin 128) (n : ℕ) (hn : n = 71) (h : ∀ j : Fin (n + 1), j.val < cfg0.N) :
    (∑ j : Fin (n + 1), stepSum m c ⟨j, h j⟩ e d) = Token.weightGrad (argX m c) (argS m c) (argW m c) (argI m c) (argG m c) d e := by
  subst hn
  unfold Token.weightGrad
  refine Eq.trans ?_ (Fin.sum_univ_tiles 72 1024 rfl _).symm
  refine Finset.sum_congr rfl fun j _ => ?_
  unfold stepSum
  refine Finset.sum_congr rfl fun τ _ => ?_
  rw [← seqOf_at, ← posOf_at]

/-- The second result: the gradient of the weights. -/
theorem weights_array (c : Dev nD) (d : Fin 2048) (e : Fin 128) :
    (dats m 0 c).arrAt 6 cfg0.N (ix2 d e)
      = Token.weightGrad (argX m c) (argS m c) (argW m c) (argI m c) (argG m c) d e := by
  refine congrFun (f := (dats m 0 c).arrAt 6 cfg0.N) (g := fun i : S2048x128.Idx => Token.weightGrad (argX m c) (argS m c) (argW m c) (argI m c) (argG m c) (i 0) (i 1)) ?_ (ix2 d e)
  refine (dats m 0 c).arrAt_eq_of_covers 6 _ (by decide +kernel) fun t hf y => ?_
  have ht : t.val % 72 = 71 :=
    (by decide +kernel : ∀ t : Fin grid0.N, (cfg0.win 6).flush t = true → t.val % 72 = 71) t hf
  have hN := lt72 t
  blk_simp
  rw [after0_6]
  idx_vars y
  refine (weightsOut_C m c t (by omega) ht y0 y1).trans ((accAt m c y1 y0 t.val t.isLt).trans ?_)
  refine (sum_steps m c y0 y1 t.val (by omega) fun j => Nat.lt_of_lt_of_le j.isLt t.isLt).trans ?_
  have hi : (((cfg0.win 6).blk t).view.emb (ix2 y0 y1) : S2048x128.Idx) = ix2 y0 y1 := by
    blk_ext [idx t]
  exact (congrArg (fun i : S2048x128.Idx => Token.weightGrad (argX m c) (argS m c) (argW m c) (argI m c) (argG m c) (i 0) (i 1)) hi).symm
end Cert.KernelIdeal.Value
end
-- ==== Proof.Equation.lean ====
module
public import proofs.«01_k».proof.Proof.Token
/-!
# The two formulas for one token agree

When the eight choices of a token are eight different experts, the kernel's formula for the gradient of a logit and the
reference's are equal, for any logits and incoming gradients, infinite ones included.
-/
@[expose] public section
noncomputable section
open Idealize.ShloMosaic
namespace Cert.Token

/-! ## The largest of a family and the sum of its exponentials -/

/-- The bit pattern of minus infinity. -/
theorem negInf : Ideal.ofBits .f32 0xFF800000#32 = ⊥ := by simp [Ideal.ofBits, Ideal.ieee]
/-- The bit pattern of plus infinity. -/
theorem posInf : Ideal.ofBits .f32 0x7F800000#32 = ⊤ := by simp [Ideal.ofBits, Ideal.ieee]

/-- The largest of a family is its supremum. -/
theorem top_eq {n : ℕ} (l : Fin n → EReal) : top l = Finset.univ.sup l := by
  rw [top, negInf]; rfl

/-- No member of a family exceeds the largest. -/
theorem le_top' {n : ℕ} (l : Fin n → EReal) (e : Fin n) : l e ≤ top l := by
  rw [top_eq]; exact Finset.le_sup (Finset.mem_univ e)

/-- The largest of a nonempty family is one of its members. -/
theorem top_mem {n : ℕ} [NeZero n] (l : Fin n → EReal) : ∃ e, top l = l e := by
  obtain ⟨e, -, he⟩ := Finset.exists_mem_eq_sup Finset.univ ⟨(0 : Fin n), Finset.mem_univ _⟩ l
  exact ⟨e, by rw [top_eq]; exact he⟩

/-- The exponential is never negative. -/
theorem exp_nonneg (x : EReal) : 0 ≤ Ideal.exp x := by
  induction x with
  | bot => simp
  | top => simp
  | coe r => simp [Real.exp_nonneg]

/-- The sum of a family of real numbers is a real number. -/
theorem sum_real {n : ℕ} (f : Fin n → EReal) (r : Fin n → ℝ) (h : ∀ e, f e = r e) : ∑ e, f e = ((∑ e, r e : ℝ) : EReal) := by
  simp only [h]
  exact (map_sum (⟨⟨((↑) : ℝ → EReal), EReal.coe_zero⟩, EReal.coe_add⟩ : ℝ →+ EReal) r Finset.univ).symm

/-- With a real largest member every shifted exponential is a real number. -/
theorem shifted_real {n : ℕ} (l : Fin n → EReal) (T : ℝ) (hT : top l = T) (e : Fin n) :
    ∃ r : ℝ, 0 ≤ r ∧ shifted l e = r := by
  have hle := le_top' l e
  unfold shifted
  rw [hT] at *
  generalize l e = x at *
  induction x with
  | bot => exact ⟨0, le_refl _, by simp⟩
  | top => simp at hle
  | coe a => exact ⟨Real.exp (a - T), Real.exp_nonneg _, by rw [← EReal.coe_sub, Ideal.exp_coe]⟩

/-- Either the largest member is real and the sum of the shifted exponentials a positive real number, or the largest member
is infinite and every exponential is that of minus infinity. -/
theorem cases {n : ℕ} [NeZero n] (l : Fin n → EReal) :
    (∃ T z : ℝ, 0 < z ∧ top l = T ∧ ∑ e, shifted l e = z) ∨ ((top l = ⊤ ∨ top l = ⊥) ∧ ∀ e, l e - top l = ⊥) := by
  cases h : top l with
  | bot =>
    refine Or.inr ⟨Or.inr rfl, fun e => ?_⟩
    have := le_top' l e
    rw [h, le_bot_iff] at this
    simp [this]
  | top => exact Or.inr ⟨Or.inl rfl, fun e => by simp⟩
  | coe T =>
    choose r h0 hr using shifted_real l T h
    refine Or.inl ⟨T, ∑ e, r e, ?_, rfl, sum_real _ r hr⟩
    obtain ⟨e, he⟩ := top_mem l
    have h1 : shifted l e = ((1 : ℝ) : EReal) := by
      unfold shifted
      rw [← he, h, ← EReal.coe_sub, sub_self, Ideal.exp_coe, Real.exp_zero]
    have : r e = 1 := by rw [hr e] at h1; exact_mod_cast h1
    exact Finset.sum_pos' (fun e _ => h0 e) ⟨e, Finset.mem_univ e, by rw [this]; exact one_pos⟩

/-- A positive real divisor comes out of the exponential. -/
theorem exp_sub_log (x : EReal) (hx : x ≤ 0) (z : ℝ) (hz : 0 < z) :
    Ideal.exp (x - Ideal.log z) = Ideal.exp x * Ideal.div 1 z := by
  rw [Ideal.div_coe hz.ne', one_mul]
  have hlog : Ideal.log z = ((Real.log z : ℝ) : EReal) := by rw [Ideal.log_coe, if_neg (not_le.mpr hz)]
  rw [hlog]
  induction x with
  | bot => simp
  | top => simp at hx
  | coe a =>
    rw [← EReal.coe_sub, Ideal.exp_coe, Ideal.exp_coe, Real.exp_sub, Real.exp_log hz, ← EReal.coe_mul, mul_one_div]

/-- A real factor that is not negative goes inside a sum. -/
theorem sum_mul_real {n : ℕ} (f : Fin n → EReal) (c : ℝ) (hc : 0 ≤ c) : (∑ e, f e) * (c : EReal) = ∑ e, f e * (c : EReal) := by
  have key : ∀ s : Finset (Fin n), (∑ e ∈ s, f e) * (c : EReal) = ∑ e ∈ s, f e * (c : EReal) := by
    intro s
    induction s using Finset.induction_on with
    | empty => simp
    | insert a s ha ih =>
      rw [Finset.sum_insert ha, Finset.sum_insert ha, ← ih]
      exact EReal.right_distrib_of_nonneg_of_ne_top (by exact_mod_cast hc) (EReal.coe_ne_top c) _ _
  exact key _

/-! ## The softmax of the chosen logits -/

/-- The lowered logits of the reference are the kernel's. -/
theorem lowered_eq (q : Fin 8 → EReal) (k : Fin 8) : lowered q k = q k - top q := by
  rw [lowered, negInf, max_eq_right bot_le]

/-- Exponential of the logarithm of the softmax, and exponential times one reciprocal: the same softmax. -/
theorem gate_eq (q : Fin 8 → EReal) (k : Fin 8) : gate q k = shifted q k * Ideal.div 1 (∑ x, shifted q x) := by
  have hg : gate q k = Ideal.exp (q k - top q - Ideal.log (∑ x, shifted q x)) := by
    simp only [gate, lowered_eq, shifted]
  rw [hg]
  rcases cases q with ⟨T, z, hz, hT, hs⟩ | ⟨-, h⟩
  · rw [hs, exp_sub_log _ _ z hz]; · rfl
    have := le_top' q k
    rw [hT] at *
    exact EReal.sub_nonpos.mpr this
  · simp [shifted, h]

/-- The weighted sum of the incoming gradients: normalised at the end, or term by term. -/
theorem weighted_eq (q d : Fin 8 → EReal) :
    (∑ x, shifted q x * d x) * Ideal.div 1 (∑ x, shifted q x) = ∑ x, gate q x * d x := by
  simp only [gate_eq]
  rcases cases q with ⟨T, z, hz, hT, hs⟩ | ⟨-, h⟩
  · rw [hs, Ideal.div_coe hz.ne', one_mul, sum_mul_real _ _ (by positivity)]
    exact Finset.sum_congr rfl fun x _ => by rw [mul_right_comm]
  · simp [shifted, h]

/-! ## The penalty -/

/-- With a real largest logit, the number the reference takes off is that logit. -/
theorem center_real (l : Fin 128 → EReal) (T : ℝ) (hT : top l = T) : center l = T := by
  have h : max (T : EReal) (-T) < ⊤ := by
    rw [max_lt_iff, ← EReal.coe_neg]; exact ⟨EReal.coe_lt_top _, EReal.coe_lt_top _⟩
  rw [center, hT, posInf]
  simp [Ideal.cmp, Scalar.select, h]

/-- With an infinite largest logit, it is zero. -/
theorem center_inf (l : Fin 128 → EReal) (hT : top l = ⊤ ∨ top l = ⊥) : center l = 0 := by
  have h : ¬ max (top l) (-top l) < ⊤ := by rcases hT with h | h <;> simp [h]
  rw [center, posInf]
  simp [Ideal.cmp, Scalar.select, h]

/-- The gradient of the penalty, by either formula. -/
theorem penalty_eq (l : Fin 128 → EReal) (e : Fin 128) :
    shifted l e * Ideal.div (coef * (top l + Ideal.log (∑ x, shifted l x))) (∑ x, shifted l x)
      = coef * logSum l * Ideal.exp (l e - logSum l) := by
  rcases cases l with ⟨T, z, hz, hT, hs⟩ | ⟨hT, h⟩
  · have hS : logSum l = Ideal.log z + top l := by
      rw [logSum, center_real l T hT, ← hs, hT]
      simp only [shifted, hT]
    have hle : l e - top l ≤ 0 := by
      have := le_top' l e
      rw [hT] at *
      exact EReal.sub_nonpos.mpr this
    have hx : l e - logSum l = l e - top l - Ideal.log z := by
      have hlog : Ideal.log z = ((Real.log z : ℝ) : EReal) := by rw [Ideal.log_coe, if_neg (not_le.mpr hz)]
      rw [hS, hT, hlog, sub_eq_add_neg, sub_eq_add_neg, sub_eq_add_neg, ← EReal.coe_add, ← EReal.coe_neg, ← EReal.coe_neg,
        ← EReal.coe_neg, add_assoc, ← EReal.coe_add]
      congr 2
      ring
    rw [hx, exp_sub_log _ hle z hz, hs, hS, Ideal.div_coe hz.ne', Ideal.div_coe hz.ne', one_mul, add_comm (Ideal.log _)]
    change shifted l e * _ = _ * (shifted l e * _)
    rw [mul_left_comm]
  · have hl : shifted l e = 0 := by simp [shifted, h]
    rw [hl, zero_mul, logSum, center_inf l hT, add_zero]
    simp only [sub_zero]
    rcases hT with hT | hT
    · obtain ⟨x, hx⟩ := top_mem l
      have hs : ∑ x, Ideal.exp (l x) = ⊤ := by
        refine top_le_iff.mp ?_
        have := Finset.single_le_sum (f := fun x => Ideal.exp (l x)) (fun x _ => exp_nonneg _) (Finset.mem_univ x)
        rw [← hx, hT] at this
        simpa using this
      rw [hs]; simp
    · have hb : ∀ x, l x = ⊥ := fun x => by have := le_top' l x; rwa [hT, le_bot_iff] at this
      simp [hb]

/-! ## Eight different experts -/

section Distinct
variable (l : Fin 128 → EReal) (ids : Fin 8 → BitVec 32) (dg : Fin 8 → EReal) (id : Fin 8 → Fin 128)
  (hid : ∀ k, ids k = BitVec.ofNat 32 (id k)) (inj : Function.Injective id)
include hid

/-- Choice `k` is expert `e` when its number is `e`. -/
theorem isAt_eq (k : Fin 8) (e : Fin 128) : isAt ids k e = if id k = e then 1#1 else 0#1 := by
  have h : (ids k = BitVec.ofNat 32 e) ↔ id k = e := by
    rw [hid]
    constructor
    · intro h
      have := congrArg BitVec.toNat h
      simp only [BitVec.toNat_ofNat] at this
      have h1 := (id k).isLt
      have h2 := e.isLt
      apply Fin.ext
      omega
    · rintro rfl; rfl
  by_cases hc : id k = e
  · simp [isAt, IntOp.cmpi, h.mpr hc, hc]
  · have : (ids k == BitVec.ofNat 32 e) = false := beq_false_of_ne fun g => hc (h.mp g)
    simp [isAt, IntOp.cmpi, this, hc]

/-- Each of the eight experts is hit. -/
theorem hit_of (k : Fin 8) : hit ids (id k) = 1#1 := by
  unfold hit
  simp only [isAt_eq ids id hid]
  fin_cases k <;> simp [IntOp.ori] <;> (repeat' split) <;> rfl

/-- No other expert is hit. -/
theorem hit_not (e : Fin 128) (he : e ∉ Set.range id) : hit ids e = 0#1 := by
  have h : ∀ k, id k ≠ e := fun k h => he ⟨k, h⟩
  simp [hit, isAt_eq ids id hid, IntOp.ori, h]

/-- The reference picks the logit of the chosen expert. -/
theorem chosen_eq (k : Fin 8) : chosen l ids k = l (id k) := by
  simp [chosen, isAt_eq ids id hid, Scalar.select]

/-- The mask keeps the logits of the eight experts. -/
theorem masked_of (k : Fin 8) : masked l ids (id k) = l (id k) := by
  rw [masked, hit_of ids id hid]; simp [Scalar.select]

/-- The mask puts every other logit at minus infinity. -/
theorem masked_not (e : Fin 128) (he : e ∉ Set.range id) : masked l ids e = ⊥ := by
  rw [masked, hit_not ids id hid e he, negInf]; simp [Scalar.select]

/-- The largest of the masked logits is the largest of the chosen ones. -/
theorem top_masked : top (masked l ids) = top fun k => l (id k) := by
  apply le_antisymm
  · rw [top_eq]
    refine Finset.sup_le fun e _ => ?_
    by_cases he : e ∈ Set.range id
    · obtain ⟨k, rfl⟩ := he
      rw [masked_of l ids id hid]
      exact le_top' (fun k => l (id k)) k
    · rw [masked_not l ids id hid e he]; exact bot_le
  · rw [top_eq fun k => l (id k)]
    refine Finset.sup_le fun k _ => ?_
    rw [← masked_of l ids id hid k]
    exact le_top' _ _

/-- At one of the eight experts the masked exponential is that of the chosen logits. -/
theorem shifted_of (k : Fin 8) : shifted (masked l ids) (id k) = shifted (fun k => l (id k)) k := by
  rw [shifted, shifted, top_masked l ids id hid, masked_of l ids id hid]

/-- At any other expert it is zero. -/
theorem shifted_not (e : Fin 128) (he : e ∉ Set.range id) : shifted (masked l ids) e = 0 := by
  rw [shifted, masked_not l ids id hid e he]; simp

include inj

/-- Each of the eight experts receives its own incoming gradient. -/
theorem placed_of (k : Fin 8) : placed ids dg (id k) = dg k := by
  unfold placed
  simp only [isAt_eq ids id hid, inj.eq_iff]
  fin_cases k <;> simp [Scalar.select]

/-- The reference puts a number per choice at its expert. -/
theorem scattered_of (d : Fin 8 → EReal) (k : Fin 8) : scattered ids d (id k) = d k := by
  simp [scattered, isAt_eq ids id hid, inj.eq_iff, Scalar.select]

omit inj in
/-- It puts nothing at any other expert. -/
theorem scattered_not (d : Fin 8 → EReal) (e : Fin 128) (he : e ∉ Set.range id) : scattered ids d e = 0 := by
  have h : ∀ k, id k ≠ e := fun k h => he ⟨k, h⟩
  simp [scattered, isAt_eq ids id hid, h, Scalar.select]

/-- The sum of the masked exponentials is a sum over the eight choices. -/
theorem sum_shifted : ∑ x, shifted (masked l ids) x = ∑ k, shifted (fun k => l (id k)) k :=
  (Fintype.sum_of_injective id inj _ _ (fun e he => shifted_not l ids id hid e he)
    fun k => (shifted_of l ids id hid k).symm).symm

/-- So is their sum weighted by the placed gradients. -/
theorem sum_weighted : ∑ x, shifted (masked l ids) x * placed ids dg x = ∑ k, shifted (fun k => l (id k)) k * dg k :=
  (Fintype.sum_of_injective id inj _ _ (fun e he => by rw [shifted_not l ids id hid e he, zero_mul])
    fun k => by rw [shifted_of l ids id hid k, placed_of ids dg id hid inj]).symm

/-- The kernel's gradient of a logit is the reference's. -/
theorem kernelGrad_eq (e : Fin 128) : kernelGrad l ids dg e = referenceGrad l ids dg e := by
  rw [kernelGrad, referenceGrad, penalty_eq, sum_shifted l ids id hid inj, sum_weighted l ids dg id hid inj, weighted_eq]
  congr 1
  by_cases he : e ∈ Set.range id
  · obtain ⟨k, rfl⟩ := he
    have hc : chosen l ids = fun k => l (id k) := funext fun k => chosen_eq l ids id hid k
    rw [shifted_of l ids id hid, placed_of ids dg id hid inj, ← gate_eq, scattered_of ids id hid inj, hc, gateGrad]
  · rw [shifted_not l ids id hid e he, scattered_not ids id hid _ e he, zero_mul, zero_mul]
end Distinct

end Cert.Token
end
-- ==== Proof.ReferenceRun.lean ====
module
public import proofs.«01_k».proof.Proof.Token
public import proofs.«01_k».proof.Proof.Gen.ReferenceIdeal
public import proofs.«01_k».proof.Proof.Gen.ReferenceIdeal.Frame
public import Idealize.ShloMosaic.Lib.Claim
public import Idealize.ShloMosaic.Lib.StableHlo.RunRead
/-!
# What the reference computes, array by array

The reference's lines gathered into a few named arrays, and its three results in terms of them.
-/
@[expose] public section
set_option maxRecDepth 16384
noncomputable section
open Idealize.ShloMosaic Idealize.ShloMosaic.TcCoe Idealize.SL.Sem
namespace Cert.ReferenceIdeal.Value
open Cert.ReferenceIdeal Cert.ReferenceIdeal.Gen

/-- A number per token, repeated along the experts. -/
def overExperts (a : FVec Ideal S24x3072 .f32) : FVec Ideal S24x3072x128 .f32 :=
  broadcastInDim S24x3072x128 ![0, 1, 2] bcast_S24x3072x1_S24x3072x128_0_1_2
    (broadcastInDim S24x3072x1 ![0, 1] bcast_S24x3072_S24x3072x1_0_1 a)

/-- A number per token, repeated along the choices. -/
def overChoices (a : FVec Ideal S24x3072 .f32) : FVec Ideal S24x3072x8 .f32 :=
  broadcastInDim S24x3072x8 ![0, 1, 2] bcast_S24x3072x1_S24x3072x8_0_1_2
    (broadcastInDim S24x3072x1 ![0, 1] bcast_S24x3072_S24x3072x1_0_1 a)

/-- The logits: inputs times weights, times the scales. -/
def logits (x : FVec Ideal S24x3072x2048 .bf16) (s : FVec Ideal S24x3072 .f32) (w : FVec Ideal S2048x128 .bf16) :
    FVec Ideal S24x3072x128 .f32 :=
  mulf (Host.dotGeneral dot_S24x3072x2048_S2048x128_S24x3072x128_2_0_01_1_n_n none x w) (overExperts s)

/-- Which choice is which expert. -/
def hits (ids : IVec S24x3072x8 32) : IVec S24x3072x8x128 1 :=
  cmpi .eq (broadcastInDim S24x3072x8x128 ![0, 1, 2, 3] bcast_S24x3072x8x1_S24x3072x8x128_0_1_2_3
      (broadcastInDim S24x3072x8x1 ![0, 1, 2] bcast_S24x3072x8_S24x3072x8x1_0_1_2 ids))
    (broadcastInDim S24x3072x8x128 ![0, 1, 2, 3] bcast_S1x1x1x128_S24x3072x8x128_0_1_2_3
      (broadcastInDim S1x1x1x128 ![3] bcast_S128_S1x1x1x128_3 (iotaInDim S128 32 0)))

/-- The logits of the chosen experts. -/
def chosen (h : IVec S24x3072x8x128 1) (l : FVec Ideal S24x3072x128 .f32) : FVec Ideal S24x3072x8 .f32 :=
  Host.reduceAdd (select h (broadcastInDim S24x3072x8x128 ![0, 1, 2, 3] bcast_S24x3072x1x128_S24x3072x8x128_0_1_2_3
      (broadcastInDim S24x3072x1x128 ![0, 1, 3] bcast_S24x3072x128_S24x3072x1x128_0_1_3 l))
    (broadcastInDim S24x3072x8x128 ![] bcast_S_S24x3072x8x128 (constant S_ .f32 0x00000000#32)))
    (constant S_ .f32 0x00000000#32) reducesTo_S24x3072x8x128_S24x3072x8_d3 h_S_

/-- The largest chosen logit of each token. -/
def chosenTops (q : FVec Ideal S24x3072x8 .f32) : FVec Ideal S24x3072 .f32 :=
  Host.reduce FloatOps.maximumf q (constant S_ .f32 0xFF800000#32) reducesTo_S24x3072x8_S24x3072_d2 h_S_

/-- The chosen logits less a number per token, or less minus infinity where that is larger. -/
def loweredBy (q : FVec Ideal S24x3072x8 .f32) (a : FVec Ideal S24x3072 .f32) : FVec Ideal S24x3072x8 .f32 :=
  subf q (overChoices (maximumf (broadcastInDim S24x3072 ![] bcast_S_S24x3072 (constant S_ .f32 0xFF800000#32)) a))

/-- The chosen logits less their largest. -/
def lowered (q : FVec Ideal S24x3072x8 .f32) : FVec Ideal S24x3072x8 .f32 := loweredBy q (chosenTops q)

/-- The softmax of the chosen logits: the exponential of the log-softmax. -/
def gates (q : FVec Ideal S24x3072x8 .f32) : FVec Ideal S24x3072x8 .f32 :=
  Host.exp (subf (lowered q) (broadcastInDim S24x3072x8 ![0, 1, 2] bcast_S24x3072x1_S24x3072x8_0_1_2
    (Host.log (broadcastInDim S24x3072x1 ![0, 1] bcast_S24x3072_S24x3072x1_0_1
      (Host.reduceAdd (Host.exp (lowered q)) (constant S_ .f32 0x00000000#32) reducesTo_S24x3072x8_S24x3072_d2 h_S_)))))

/-- The gradient of the chosen logits. -/
def gateGrad (g d : FVec Ideal S24x3072x8 .f32) : FVec Ideal S24x3072x8 .f32 :=
  mulf g (subf d (overChoices
    (Host.reduceAdd (mulf g d) (constant S_ .f32 0x00000000#32) reducesTo_S24x3072x8_S24x3072_d2 h_S_)))

/-- The largest logit of each token. -/
def tops (l : FVec Ideal S24x3072x128 .f32) : FVec Ideal S24x3072 .f32 :=
  Host.reduce FloatOps.maximumf l (constant S_ .f32 0xFF800000#32) reducesTo_S24x3072x128_S24x3072_d2 h_S_

/-- A number per token, or zero where it is infinite. -/
def finiteOrZero (a : FVec Ideal S24x3072 .f32) : FVec Ideal S24x3072 .f32 :=
  select (cmpf .olt (Host.absf a) (broadcastInDim S24x3072 ![] bcast_S_S24x3072 (constant S_ .f32 0x7F800000#32)))
    a (broadcastInDim S24x3072 ![] bcast_S_S24x3072 (constant S_ .f32 0x00000000#32))

/-- The number taken off a token's logits: the largest, or zero when that is infinite. -/
def centers (l : FVec Ideal S24x3072x128 .f32) : FVec Ideal S24x3072 .f32 := finiteOrZero (tops l)

/-- The logarithm of the sum of the exponentials of a token's logits. -/
def logSums (l : FVec Ideal S24x3072x128 .f32) : FVec Ideal S24x3072 .f32 :=
  addf (Host.log (Host.reduceAdd (Host.exp (subf l (overExperts (centers l)))) (constant S_ .f32 0x00000000#32)
    reducesTo_S24x3072x128_S24x3072_d2 h_S_)) (centers l)

/-- The gradient of the penalty. -/
def penaltyGrad (l : FVec Ideal S24x3072x128 .f32) : FVec Ideal S24x3072x128 .f32 :=
  mulf (broadcastInDim S24x3072x128 ![0, 1, 2] bcast_S24x3072x1_S24x3072x128_0_1_2
      (mulf (broadcastInDim S24x3072x1 ![] bcast_S_S24x3072x1 (constant S_ .f32 0x3CA3D70A#32))
        (broadcastInDim S24x3072x1 ![0, 1] bcast_S24x3072_S24x3072x1_0_1 (logSums l))))
    (Host.exp (subf l (overExperts (logSums l))))

/-- A number per choice, put at its expert. -/
def scattered (h : IVec S24x3072x8x128 1) (d : FVec Ideal S24x3072x8 .f32) : FVec Ideal S24x3072x128 .f32 :=
  Host.reduceAdd (select h (broadcastInDim S24x3072x8x128 ![0, 1, 2, 3] bcast_S24x3072x8x1_S24x3072x8x128_0_1_2_3
      (broadcastInDim S24x3072x8x1 ![0, 1, 2] bcast_S24x3072x8_S24x3072x8x1_0_1_2 d))
    (broadcastInDim S24x3072x8x128 ![] bcast_S_S24x3072x8x128 (constant S_ .f32 0x00000000#32)))
    (constant S_ .f32 0x00000000#32) reducesTo_S24x3072x8x128_S24x3072x128_d2 h_S_

/-- The gradient of the logits. -/
def logitsGrad (l : FVec Ideal S24x3072x128 .f32) (ids : IVec S24x3072x8 32) (dg : FVec Ideal S24x3072x8 .bf16) :
    FVec Ideal S24x3072x128 .f32 :=
  addf (penaltyGrad l) (scattered (hits ids) (gateGrad (gates (chosen (hits ids) l)) (extf .f32 dg bitsLt_bf16_f32)))

/-- The gradient of the inputs, from the gradient of the logits. -/
def inputsGrad (dl : FVec Ideal S24x3072x128 .f32) (w : FVec Ideal S2048x128 .bf16) : FVec Ideal S24x3072x2048 .bf16 :=
  truncf .bf16 (Host.dotGeneral dot_S24x3072x128_S2048x128_S24x3072x2048_2_1_01_0_n_n none
    (truncf .bf16 dl bitsLt_bf16_f32) w) bitsLt_bf16_f32

/-- The gradient of the weights, from the gradient of the logits. -/
def weightsGrad (dl : FVec Ideal S24x3072x128 .f32) (x : FVec Ideal S24x3072x2048 .bf16) (s : FVec Ideal S24x3072 .f32) :
    FVec Ideal S2048x128 .f32 :=
  Host.dotGeneral dot_S24x3072x2048_S24x3072x128_S2048x128_01_01_2_2_n_n none x
    (mulf (truncf .bf16 dl bitsLt_bf16_f32)
      (broadcastInDim S24x3072x128 ![0, 1, 2] bcast_S24x3072x1_S24x3072x128_0_1_2
        (truncf .bf16 (broadcastInDim S24x3072x1 ![0, 1] bcast_S24x3072_S24x3072x1_0_1 s) bitsLt_bf16_f32)))

/-- All the lines after the conversion of the codes. -/
abbrev lines : List (HloOp τ sig (Elt Ideal)) :=
  List.flatten [hostOps1, hostOps1_1, hostOps1_2, hostOps1_3, hostOps1_4, hostOps1_5, hostOps1_6, hostOps1_7, hostOps1_8]

section
variable (V : Valuation τ sig (Elt Ideal))
/-- The converted codes, as the lines find them. -/
abbrev inX : FVec Ideal S24x3072x2048 .bf16 := V (Proc.devRef .tc main_v0)
/-- The scales, as the lines find them. -/
abbrev inS : FVec Ideal S24x3072 .f32 := V (Proc.devRef .tc main_arg1)
/-- The weights, as the lines find them. -/
abbrev inW : FVec Ideal S2048x128 .bf16 := V (Proc.devRef .tc main_arg2)
/-- The choices, as the lines find them. -/
abbrev inI : IVec S24x3072x8 32 := V (Proc.devRef .tc main_arg3)
/-- The incoming gradients, as the lines find them. -/
abbrev inG : FVec Ideal S24x3072x8 .bf16 := V (Proc.devRef .tc main_arg4)
/-- The gradient of the logits the lines compute. -/
abbrev outL : FVec Ideal S24x3072x128 .f32 := logitsGrad (logits (inX V) (inS V) (inW V)) (inI V) (inG V)

set_option maxHeartbeats 2000000 in
/-- What the lines leave in the third result. -/
theorem lines_logits : StableHlo.after lines V (Proc.devRef .tc main_v57)
    = shapeCast S73728x128 (outL V) shapeCasts_S24x3072x128_S73728x128 := by
  simp only [lines, List.flatten_cons, List.flatten_nil, List.append_nil]
  after_reads_simp
  simp -implicitDefEqProofs only [StableHlo.TRef.toBuf, StableHlo.TRef.ofBuf, cast_cast, cast_eq, id_eq]
  rfl

set_option maxHeartbeats 2000000 in
/-- What the lines leave in the first result. -/
theorem lines_inputs : StableHlo.after lines V (Proc.devRef .tc main_v56)
    = shapeCast S73728x2048 (inputsGrad (outL V) (inW V)) shapeCasts_S24x3072x2048_S73728x2048 := by
  simp only [lines, List.flatten_cons, List.flatten_nil, List.append_nil]
  after_reads_simp
  simp -implicitDefEqProofs only [StableHlo.TRef.toBuf, StableHlo.TRef.ofBuf, cast_cast, cast_eq, id_eq]
  rfl

set_option maxHeartbeats 2000000 in
/-- What the lines leave in the second result. -/
theorem lines_weights : StableHlo.after lines V (Proc.devRef .tc main_v55) = weightsGrad (outL V) (inX V) (inS V) := by
  simp only [lines, List.flatten_cons, List.flatten_nil, List.append_nil]
  after_reads_simp
  simp -implicitDefEqProofs only [StableHlo.TRef.toBuf, StableHlo.TRef.ofBuf, cast_cast, cast_eq, id_eq]
  rfl
end

end Cert.ReferenceIdeal.Value
end
-- ==== Proof.ReferenceAt.lean ====
module
public import proofs.«01_k».proof.Proof.ReferenceRun
/-!
# The reference's arrays at one index
-/
@[expose] public section
set_option maxRecDepth 16384
noncomputable section
open Idealize.ShloMosaic Idealize.ShloMosaic.TcCoe Idealize.SL.Sem
namespace Cert.ReferenceIdeal.Value
open Cert.ReferenceIdeal Cert.ReferenceIdeal.Gen

variable (b : Fin 24) (t : Fin 3072) (e : Fin 128) (k : Fin 8)

/-- A number per token repeated along the experts, at one expert. -/
theorem overExperts_at (a : FVec Ideal S24x3072 .f32) : overExperts a (ix3 b t e) = a (ix2 b t) := by
  pointwise [overExperts]
/-- A number per token repeated along the choices, at one choice. -/
theorem overChoices_at (a : FVec Ideal S24x3072 .f32) : overChoices a (ix3 b t k) = a (ix2 b t) := by
  pointwise [overChoices]

/-- One logit: a dot product times the scale of the token. -/
theorem logits_at (x : FVec Ideal S24x3072x2048 .bf16) (s : FVec Ideal S24x3072 .f32) (w : FVec Ideal S2048x128 .bf16) :
    logits x s w (ix3 b t e) = (∑ d : Fin 2048, x (ix3 b t d) * w (ix2 d e)) * s (ix2 b t) := by
  pointwise [logits, overExperts]

/-- Whether one choice is one expert. -/
theorem hits_at (ids : IVec S24x3072x8 32) : hits ids (ix4 b t k e) = Token.isAt (fun k => ids (ix3 b t k)) k e := by
  pointwise [hits, Token.isAt]

/-- The logit of one choice: a sum over the experts in which only the chosen one counts. -/
theorem chosen_at (h : IVec S24x3072x8x128 1) (l : FVec Ideal S24x3072x128 .f32) :
    chosen h l (ix3 b t k) = ∑ e : Fin 128, Scalar.select (h (ix4 b t k e)) (l (ix3 b t e)) 0 := by
  pointwise [chosen]

/-- The largest chosen logit of one token. -/
theorem chosenTops_at (q : FVec Ideal S24x3072x8 .f32) : chosenTops q (ix2 b t) = Token.top fun k => q (ix3 b t k) := by
  pointwise [chosenTops, Token.top]

/-- One chosen logit less the number of its token. -/
theorem loweredBy_at (q : FVec Ideal S24x3072x8 .f32) (a : FVec Ideal S24x3072 .f32) :
    loweredBy q a (ix3 b t k) = q (ix3 b t k) - max (Ideal.ofBits .f32 0xFF800000#32) (a (ix2 b t)) := by
  pointwise [loweredBy, overChoices]

/-- One chosen logit less the largest. -/
theorem lowered_at (q : FVec Ideal S24x3072x8 .f32) : lowered q (ix3 b t k) = Token.lowered (fun k => q (ix3 b t k)) k := by
  rw [lowered, loweredBy_at, chosenTops_at, Token.lowered]

/-- One weight of the softmax of the chosen logits. -/
theorem gates_at (q : FVec Ideal S24x3072x8 .f32) : gates q (ix3 b t k) = Token.gate (fun k => q (ix3 b t k)) k := by
  unfold Token.gate
  simp only [← lowered_at]
  pointwise [gates]

/-- The gradient of one chosen logit. -/
theorem gateGrad_at (g d : FVec Ideal S24x3072x8 .f32) :
    gateGrad g d (ix3 b t k) = Token.gateGrad (fun k => g (ix3 b t k)) (fun k => d (ix3 b t k)) k := by
  pointwise [gateGrad, overChoices, Token.gateGrad]

/-- The largest logit of one token. -/
theorem tops_at (l : FVec Ideal S24x3072x128 .f32) : tops l (ix2 b t) = Token.top fun e => l (ix3 b t e) := by
  pointwise [tops, Token.top]

/-- The number of one token, or zero where it is infinite. -/
theorem finiteOrZero_at (a : FVec Ideal S24x3072 .f32) : finiteOrZero a (ix2 b t)
    = Scalar.select (Ideal.cmp .olt (max (a (ix2 b t)) (-a (ix2 b t))) (Ideal.ofBits .f32 0x7F800000#32)) (a (ix2 b t)) 0 := by
  have h : FloatOps.absf (F := Ideal) (φ := .f32) (a (ix2 b t)) = max (a (ix2 b t)) (-a (ix2 b t)) := rfl
  rw [← h]
  pointwise [finiteOrZero]

/-- The number taken off the logits of one token. -/
theorem centers_at (l : FVec Ideal S24x3072x128 .f32) : centers l (ix2 b t) = Token.center fun e => l (ix3 b t e) := by
  rw [centers, finiteOrZero_at, tops_at, Token.center]

/-- The log-sum-exp of one token. -/
theorem logSums_at (l : FVec Ideal S24x3072x128 .f32) : logSums l (ix2 b t) = Token.logSum fun e => l (ix3 b t e) := by
  unfold Token.logSum
  rw [← centers_at]
  pointwise [logSums, overExperts]

/-- The penalty's part of the gradient of one logit. -/
theorem penaltyGrad_at (l : FVec Ideal S24x3072x128 .f32) : penaltyGrad l (ix3 b t e)
    = Token.coef * Token.logSum (fun e => l (ix3 b t e)) * Ideal.exp (l (ix3 b t e) - Token.logSum fun e => l (ix3 b t e)) := by
  rw [← logSums_at]
  pointwise [penaltyGrad, overExperts]

/-- What the eight choices of a token put at one expert. -/
theorem scattered_at (h : IVec S24x3072x8x128 1) (d : FVec Ideal S24x3072x8 .f32) :
    scattered h d (ix3 b t e) = ∑ k : Fin 8, Scalar.select (h (ix4 b t k e)) (d (ix3 b t k)) 0 := by
  pointwise [scattered]

/-- The gradient of one logit is the reference's formula for that token. -/
theorem logitsGrad_at (l : FVec Ideal S24x3072x128 .f32) (ids : IVec S24x3072x8 32) (dg : FVec Ideal S24x3072x8 .bf16) :
    logitsGrad l ids dg (ix3 b t e)
      = Token.referenceGrad (fun e => l (ix3 b t e)) (fun k => ids (ix3 b t k)) (fun k => dg (ix3 b t k)) e := by
  have h : logitsGrad l ids dg (ix3 b t e) = penaltyGrad l (ix3 b t e)
      + scattered (hits ids) (gateGrad (gates (chosen (hits ids) l)) (extf .f32 dg bitsLt_bf16_f32)) (ix3 b t e) := by
    pointwise [logitsGrad]
  have hd : ∀ k, extf .f32 dg bitsLt_bf16_f32 (ix3 b t k) = dg (ix3 b t k) := fun k => by pointwise
  rw [h, penaltyGrad_at, scattered_at]
  simp only [hits_at, gateGrad_at, gates_at, chosen_at, hd]
  rfl

/-- The gradient of one input: a sum over the experts. -/
theorem inputsGrad_at (dl : FVec Ideal S24x3072x128 .f32) (w : FVec Ideal S2048x128 .bf16) (d : Fin 2048) :
    inputsGrad dl w (ix3 b t d) = ∑ e : Fin 128, dl (ix3 b t e) * w (ix2 d e) := by
  pointwise [inputsGrad]

/-- The gradient of one weight: a sum over all sequences and all their tokens. -/
theorem weightsGrad_at (dl : FVec Ideal S24x3072x128 .f32) (x : FVec Ideal S24x3072x2048 .bf16) (s : FVec Ideal S24x3072 .f32)
    (d : Fin 2048) : weightsGrad dl x s (ix2 d e)
      = ∑ b : Fin 24, ∑ t : Fin 3072, x (ix3 b t d) * (dl (ix3 b t e) * s (ix2 b t)) := by
  pointwise [weightsGrad]
end Cert.ReferenceIdeal.Value
end
-- ==== Proof.ReferenceArrays.lean ====
module
public import proofs.«01_k».proof.Proof.ReferenceAt
public import Idealize.ShloMosaic.Lib.Pipeline.ValueKit
/-!
# What the reference's result arrays hold after the run

Each result of the reference, at one index, as a formula over the reference's arguments.
-/
@[expose] public section
set_option maxRecDepth 16384
noncomputable section
open Idealize.ShloMosaic Idealize.ShloMosaic.TcCoe Idealize.SL.Sem
namespace Cert.ReferenceIdeal.Value
open Cert.ReferenceIdeal Cert.ReferenceIdeal.Gen
variable (m : (ℓ : Loc nD τ sig) → Buf (Elt Ideal) ℓ)

/-- The codes of the inputs by their coordinates: sequence, token, channel. -/
abbrev argX (c : Dev nD) (b : Fin 24) (s : Fin 3072) (k : Fin 2048) : EReal :=
  m ((c.tc : Thread nD τ).loc main_arg0) (ix3 b s k)
/-- The scales of the tokens. -/
abbrev argS (c : Dev nD) (b : Fin 24) (s : Fin 3072) : EReal := m ((c.tc : Thread nD τ).loc main_arg1) (ix2 b s)
/-- The weights: channel, expert. -/
abbrev argW (c : Dev nD) (k : Fin 2048) (e : Fin 128) : EReal := m ((c.tc : Thread nD τ).loc main_arg2) (ix2 k e)
/-- The eight choices of a token. -/
abbrev argI (c : Dev nD) (b : Fin 24) (s : Fin 3072) (k : Fin 8) : BitVec 32 :=
  m ((c.tc : Thread nD τ).loc main_arg3) (ix3 b s k)
/-- The incoming gradients of a token's choices. -/
abbrev argG (c : Dev nD) (b : Fin 24) (s : Fin 3072) (k : Fin 8) : EReal :=
  m ((c.tc : Thread nD τ).loc main_arg4) (ix3 b s k)

/-- The buffers as the lines after the conversion find them. -/
abbrev start (c : Dev nD) : Valuation τ sig (Elt Ideal) :=
  Pipeline.withArrays (cfgs 0).spec c (V0 m c) fun w => (dats m 0 c).arrAt w (cfgs 0).N

/-- The one step works on the whole arrays. -/
theorem idx : ∀ t : Fin cfg0.N, win0_0.index t = ![0, 0, 0] ∧ win0_1.index t = ![0, 0, 0] :=
  (by decide +kernel : ∀ t : Fin grid0.N, _)

/-- The converted codes are the codes. -/
theorem codes_array (c : Dev nD) (b : Fin 24) (s : Fin 3072) (k : Fin 2048) :
    inX (start m c) (ix3 b s k) = argX m c b s k := by
  have h : inX (start m c) = (dats m 0 c).arrAt 1 cfg0.N :=
    Pipeline.withArrays_arr (cfgs 0).spec launch0.win.arr_inj c (V0 m c) (fun w => (dats m 0 c).arrAt w (cfgs 0).N) 1
  have h2 : (dats m 0 c).arrAt 1 cfg0.N = fun i => (m ((c.tc : Thread nD τ).loc main_arg0) i : EReal) := by
    refine (dats m 0 c).arrAt_eq_of_covers 1 _ (by decide +kernel) fun t hf y => ?_
    blk_simp
    rw [after0_1]
    frame_out
    idx_vars y
    have h3 : k0_pay1 (iblk m c 0 t) (ix3 y0 y1 y2) = (iblk m c 0 t : FVec Ideal S24x3072x2048 .fp8e4m3) (ix3 y0 y1 y2) := by
      generalize (iblk m c 0 t : FVec Ideal S24x3072x2048 .fp8e4m3) = x
      pointwise [k0_pay1]
    refine h3.trans ?_
    blk_simp [iblk, V, idx t]
    refine congrArg (m ((c.tc : Thread nD τ).loc main_arg0)) ?_
    blk_ext [idx t]
  rw [h, h2]

/-- The scales are the argument, untouched. -/
theorem scales_start (c : Dev nD) : inS (start m c) = m ((c.tc : Thread nD τ).loc main_arg1) :=
  Pipeline.withArrays_of_ne _ c (V0 m c) _ main_arg1 (by exact (by decide : ∀ w, Pipeline.arrRef spec0 w ≠ main_arg1))
/-- The weights are the argument, untouched. -/
theorem weights_start (c : Dev nD) : inW (start m c) = m ((c.tc : Thread nD τ).loc main_arg2) :=
  Pipeline.withArrays_of_ne _ c (V0 m c) _ main_arg2 (by exact (by decide : ∀ w, Pipeline.arrRef spec0 w ≠ main_arg2))
/-- The choices are the argument, untouched. -/
theorem choices_start (c : Dev nD) : inI (start m c) = m ((c.tc : Thread nD τ).loc main_arg3) :=
  Pipeline.withArrays_of_ne _ c (V0 m c) _ main_arg3 (by exact (by decide : ∀ w, Pipeline.arrRef spec0 w ≠ main_arg3))
/-- The incoming gradients are the argument, untouched. -/
theorem grads_start (c : Dev nD) : inG (start m c) = m ((c.tc : Thread nD τ).loc main_arg4) :=
  Pipeline.withArrays_of_ne _ c (V0 m c) _ main_arg4 (by exact (by decide : ∀ w, Pipeline.arrRef spec0 w ≠ main_arg4))

/-- The reference's logits. -/
theorem logits_start (c : Dev nD) (b : Fin 24) (s : Fin 3072) (e : Fin 128) :
    logits (inX (start m c)) (inS (start m c)) (inW (start m c)) (ix3 b s e)
      = Token.logit (argX m c) (argS m c) (argW m c) b s e := by
  rw [logits_at, scales_start, weights_start, Token.logit]
  exact congrArg (· * argS m c b s) (Finset.sum_congr rfl fun d _ => by rw [codes_array, mul_comm])

/-- The reference's gradient of the logits. -/
theorem logitsGrad_start (c : Dev nD) (b : Fin 24) (s : Fin 3072) (e : Fin 128) :
    outL (start m c) (ix3 b s e)
      = Token.referenceGrad (Token.logit (argX m c) (argS m c) (argW m c) b s) (argI m c b s) (argG m c b s) e := by
  rw [outL, logitsGrad_at, choices_start, grads_start]
  have h : (fun e => logits (inX (start m c)) (inS (start m c)) (inW (start m c)) (ix3 b s e)) = _ :=
    funext fun e => logits_start m c b s e
  rw [h]

/-- The reference's gradient of the inputs. -/
theorem inputsGrad_start (c : Dev nD) (b : Fin 24) (s : Fin 3072) (d : Fin 2048) :
    inputsGrad (outL (start m c)) (inW (start m c)) (ix3 b s d)
      = ∑ e : Fin 128, Token.referenceGrad (Token.logit (argX m c) (argS m c) (argW m c) b s) (argI m c b s) (argG m c b s) e
          * argW m c d e := by
  rw [inputsGrad_at, weights_start]
  exact Finset.sum_congr rfl fun e _ => by rw [logitsGrad_start]

/-- The reference's gradient of the weights. -/
theorem weightsGrad_start (c : Dev nD) (d : Fin 2048) (e : Fin 128) :
    weightsGrad (outL (start m c)) (inX (start m c)) (inS (start m c)) (ix2 d e)
      = ∑ b : Fin 24, ∑ s : Fin 3072, argX m c b s d
          * (Token.referenceGrad (Token.logit (argX m c) (argS m c) (argW m c) b s) (argI m c b s) (argG m c b s) e
              * argS m c b s) := by
  rw [weightsGrad_at, scales_start]
  exact Finset.sum_congr rfl fun b _ => Finset.sum_congr rfl fun s _ => by rw [logitsGrad_start, codes_array]

/-- All the lines of the reference, from the launch to the end, as one reads a buffer at the end. -/
abbrev finish (c : Dev nD) (r : Ref sig .tc) : Buf (Elt Ideal) ((c.tc : Thread nD τ).loc r) :=
  Pipeline.afterTail₀ cfgs (dats m) 0 (V0 m)
    [hostOps1, hostOps1_1, hostOps1_2, hostOps1_3, hostOps1_4, hostOps1_5, hostOps1_6, hostOps1_7, hostOps1_8] c r

/-- The third result: the gradient of the logits. -/
theorem finish_logits (c : Dev nD) (f : Fin 73728) (e : Fin 128) :
    finish m c main_v57 (ix2 f e)
      = Token.referenceGrad (Token.logit (argX m c) (argS m c) (argW m c) (Token.seqOf f) (Token.posOf f))
          (argI m c (Token.seqOf f) (Token.posOf f)) (argG m c (Token.seqOf f) (Token.posOf f)) e := by
  have h : finish m c main_v57 = _ := lines_logits (start m c)
  rw [h, ← logitsGrad_start]
  generalize outL (start m c) = y
  pointwise
  rfl

/-- The first result: the gradient of the inputs. -/
theorem finish_inputs (c : Dev nD) (f : Fin 73728) (d : Fin 2048) :
    finish m c main_v56 (ix2 f d)
      = ∑ e : Fin 128, Token.referenceGrad (Token.logit (argX m c) (argS m c) (argW m c) (Token.seqOf f) (Token.posOf f))
          (argI m c (Token.seqOf f) (Token.posOf f)) (argG m c (Token.seqOf f) (Token.posOf f)) e * argW m c d e := by
  have h : finish m c main_v56 = _ := lines_inputs (start m c)
  rw [h, ← inputsGrad_start]
  generalize inputsGrad (outL (start m c)) (inW (start m c)) = y
  pointwise
  rfl

/-- The second result: the gradient of the weights. -/
theorem finish_weights (c : Dev nD) (d : Fin 2048) (e : Fin 128) :
    finish m c main_v55 (ix2 d e)
      = ∑ b : Fin 24, ∑ s : Fin 3072, argX m c b s d
          * (Token.referenceGrad (Token.logit (argX m c) (argS m c) (argW m c) b s) (argI m c b s) (argG m c b s) e
              * argS m c b s) := by
  have h : finish m c main_v55 = _ := lines_weights (start m c)
  rw [h, weightsGrad_start]

end Cert.ReferenceIdeal.Value
end
-- ==== Proof.Choices.lean ====
module
public import proofs.«01_k».proof.Defs
public import proofs.«01_k».proof.Proof.Gen.Pre_distinct_experts
public import Idealize.ShloMosaic.Lib.Pointwise
/-!
# What the precondition says of one token

Its eight choices are the numbers of eight different experts.
-/
@[expose] public section
set_option maxRecDepth 16384
noncomputable section
open Idealize.ShloMosaic Idealize.ShloMosaic.TcCoe Idealize.SL.Sem
namespace Cert.Pre_distinct_experts
open Cert.Pre_distinct_experts.Facts

variable (x : FVec Ideal S24x3072x2048 .fp8e4m3) (s : FVec Ideal S24x3072 .f32) (w : FVec Ideal S2048x128 .bf16)
  (ids : IVec S24x3072x8 32) (dg : FVec Ideal S24x3072x8 .bf16) (b : Fin 24) (t : Fin 3072)

/-- A choice is the number of an expert. -/
theorem inRange (h : (fn x s w ids dg).1 = fun _ => 1#1) (k : Fin 8) : (ids (ix3 b t k)).toNat < 128 := by
  have h1 := congrFun h (ix3 b t k)
  have h2 : (fn x s w ids dg).1 (ix3 b t k) = IntOp.andi (IntOp.cmpi .sge (ids (ix3 b t k)) 0#32) (IntOp.cmpi .slt (ids (ix3 b t k)) 128#32) := by
    pointwise [fn]
  rw [h2] at h1
  generalize ids (ix3 b t k) = i at h1
  simp only [IntOp.andi, IntOp.cmpi] at h1
  have h3 : (0#32).sle i = true ∧ i.slt 128#32 = true := by
    revert h1
    cases (0#32).sle i <;> cases i.slt 128#32 <;> decide
  rw [BitVec.sle_iff_toInt_le, BitVec.slt_iff_toInt_lt] at h3
  have hi := BitVec.toInt_eq_toNat_cond i
  have hl := i.isLt
  simp only [BitVec.toInt_zero, show (128#32).toInt = 128 from rfl] at h3
  split at hi <;> omega

/-- Two choices of a token are different. -/
theorem differ (h : (fn x s w ids dg).2 = fun _ => 1#1) (k k' : Fin 8) (hk : k ≠ k') : ids (ix3 b t k) ≠ ids (ix3 b t k') := by
  have h1 := congrFun h (ix4 b t k k')
  have h2 : (fn x s w ids dg).2 (ix4 b t k k') = IntOp.ori (IntOp.cmpi .ne (ids (ix3 b t k)) (ids (ix3 b t k')))
      (IntOp.cmpi .eq (BitVec.ofNat 32 k) (BitVec.ofNat 32 k')) := by
    pointwise [fn]
  rw [h2] at h1
  generalize ids (ix3 b t k) = i at h1 ⊢
  generalize ids (ix3 b t k') = i' at h1 ⊢
  have h3 : IntOp.cmpi .eq (BitVec.ofNat 32 k) (BitVec.ofNat 32 k') = 0#1 := by
    clear h h1 h2
    revert k k'
    decide
  rw [h3] at h1
  rintro rfl
  simp [IntOp.ori, IntOp.cmpi] at h1

/-- The eight choices of a token, as experts: each its own. -/
theorem experts (h1 : (fn x s w ids dg).1 = fun _ => 1#1) (h2 : (fn x s w ids dg).2 = fun _ => 1#1) :
    ∃ id : Fin 8 → Fin 128, (∀ k, ids (ix3 b t k) = BitVec.ofNat 32 (id k)) ∧ Function.Injective id := by
  have hr := inRange x s w ids dg b t h1
  have he : ∀ k, ids (ix3 b t k) = BitVec.ofNat 32 ((⟨_, hr k⟩ : Fin 128) : ℕ) := fun k => by simp
  refine ⟨fun k => ⟨_, hr k⟩, he, fun k k' hkk => ?_⟩
  by_contra hne
  refine differ x s w ids dg b t h2 k k' hne ?_
  exact BitVec.eq_of_toNat_eq (Fin.mk.inj hkk)

end Cert.Pre_distinct_experts
end
-- ==== Proof.Algebraic.lean ====
module
public import proofs.«01_k».proof.Proof.Arrays
public import proofs.«01_k».proof.Proof.Equation
public import proofs.«01_k».proof.Proof.ReferenceArrays
public import proofs.«01_k».proof.Proof.Choices
public import proofs.«01_k».proof.Proof.Gen.Kernel
/-!
# The kernel's results are the reference's

For the same arguments, with eight different experts chosen for every token, each of the three results is equal.
-/
@[expose] public section
set_option maxRecDepth 16384
noncomputable section
open Idealize.ShloMosaic Idealize.ShloMosaic.TcCoe Idealize.SL.Sem

namespace Cert.Token
variable (X : Fin 24 → Fin 3072 → Fin 2048 → EReal) (S : Fin 24 → Fin 3072 → EReal) (W : Fin 2048 → Fin 128 → EReal)
  (I : Fin 24 → Fin 3072 → Fin 8 → BitVec 32) (G : Fin 24 → Fin 3072 → Fin 8 → EReal)

/-- A token's eight choices are the numbers of eight different experts. -/
def Distinct (ids : Fin 8 → BitVec 32) : Prop :=
  ∃ id : Fin 8 → Fin 128, (∀ k, ids k = BitVec.ofNat 32 (id k)) ∧ Function.Injective id

variable (hI : ∀ b s, Distinct (I b s))
include hI

/-- The gradient of the logits. -/
theorem logitGrad_eq (b : Fin 24) (s : Fin 3072) (e : Fin 128) :
    logitGrad X S W I G b s e = referenceGrad (logit X S W b s) (I b s) (G b s) e := by
  obtain ⟨id, hid, inj⟩ := hI b s
  exact kernelGrad_eq _ _ _ id hid inj e

/-- The gradient of the inputs. -/
theorem inputGrad_eq (b : Fin 24) (s : Fin 3072) (d : Fin 2048) : inputGrad X S W I G b s d
    = ∑ e : Fin 128, referenceGrad (logit X S W b s) (I b s) (G b s) e * W d e :=
  Finset.sum_congr rfl fun e _ => by rw [logitGrad_eq X S W I G hI]

/-- The gradient of the weights: the sum over all tokens is the sum over the sequences of the sums over their tokens. -/
theorem weightGrad_eq (d : Fin 2048) (e : Fin 128) : weightGrad X S W I G d e
    = ∑ b : Fin 24, ∑ s : Fin 3072, X b s d * (referenceGrad (logit X S W b s) (I b s) (G b s) e * S b s) := by
  rw [weightGrad, Fin.sum_univ_tiles 24 3072 rfl]
  refine Finset.sum_congr rfl fun b _ => Finset.sum_congr rfl fun s _ => ?_
  have hb : ∀ h, seqOf ⟨↑b * 3072 + ↑s, h⟩ = b := fun h => Fin.ext (by simp only [seqOf]; omega)
  have hs : ∀ h, posOf ⟨↑b * 3072 + ↑s, h⟩ = s := fun h => Fin.ext (by simp only [posOf]; omega)
  rw [hb, hs, logitGrad_eq X S W I G hI, mul_comm]
end Cert.Token

namespace Cert.Proof
set_option maxHeartbeats 1000000 in
/-- The algebraic claim: over the extended reals the kernel and the reference compute the same three results. -/
theorem algebraic : Cert.algebraic_KernelIdeal_ReferenceIdeal_pre_distinct_experts := by
  pair_intro
  · run_from Cert.KernelIdeal.Gen.run_main m g
  · have hI : ∀ c b s, Token.Distinct (KernelIdeal.Value.argI m c b s) := fun c b s =>
      Pre_distinct_experts.experts _ _ _ _ _ b s (hpre c).1 (hpre c).2
    have hX : ∀ c, ReferenceIdeal.Value.argX m' c = KernelIdeal.Value.argX m c := fun c => by
      funext b s k; exact congrFun (hagree c).1 _
    have hS : ∀ c, ReferenceIdeal.Value.argS m' c = KernelIdeal.Value.argS m c := fun c => by
      funext b s; exact congrFun (hagree c).2.1 _
    have hW : ∀ c, ReferenceIdeal.Value.argW m' c = KernelIdeal.Value.argW m c := fun c => by
      funext b s; exact congrFun (hagree c).2.2.1 _
    have hN : ∀ c, ReferenceIdeal.Value.argI m' c = KernelIdeal.Value.argI m c := fun c => by
      funext b s k; exact congrFun (hagree c).2.2.2.1 _
    have hG : ∀ c, ReferenceIdeal.Value.argG m' c = KernelIdeal.Value.argG m c := fun c => by
      funext b s k; exact congrFun (hagree c).2.2.2.2 _
    run_from Cert.ReferenceIdeal.Gen.run_main m' g'
    · funext i
      idx_vars i
      refine (ReferenceIdeal.Value.finish_inputs m' c i0 i1).trans ?_
      rw [KernelIdeal.Value.inputs_array, Token.inputGrad_eq _ _ _ _ _ (hI c), hX, hS, hW, hN, hG]
    · funext i
      idx_vars i
      refine (ReferenceIdeal.Value.finish_weights m' c i0 i1).trans ?_
      rw [KernelIdeal.Value.weights_array, Token.weightGrad_eq _ _ _ _ _ (hI c), hX, hS, hW, hN, hG]
    · funext i
      idx_vars i
      refine (ReferenceIdeal.Value.finish_logits m' c i0 i1).trans ?_
      rw [KernelIdeal.Value.logits_array, Token.logitGrad_eq _ _ _ _ _ (hI c), hX, hS, hW, hN, hG]
    · exact (ReferenceIdeal.Gen.W_main_arg1 m' _ c).trans (hagree c).2.1
    · exact (ReferenceIdeal.Gen.W_main_arg2 m' _ c).trans (hagree c).2.2.1
    · exact (ReferenceIdeal.Gen.W_main_arg3 m' _ c).trans (hagree c).2.2.2.1
    · exact (ReferenceIdeal.Gen.W_main_arg4 m' _ c).trans (hagree c).2.2.2.2
end Cert.Proof
end
-- ==== Proof.lean ====
module

public import proofs.«01_k».proof.Defs
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_distinct_experts
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_distinct_experts.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Proof.algebraic⟩

end Cert.Proof

end
